-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_v84) = v6 c
          ∧ r.2.mem ((c.tc : Thread Cert.ReferenceIdeal.nD Cert.ReferenceIdeal.τ).loc Cert.ReferenceIdeal.main_v77) = v7 c
          ∧ r.2.mem ((c.tc : Thread Cert.ReferenceIdeal.nD Cert.ReferenceIdeal.τ).loc Cert.ReferenceIdeal.main_v128) = v8 c
          ∧ r.2.mem ((c.tc : Thread Cert.ReferenceIdeal.nD Cert.ReferenceIdeal.τ).loc Cert.ReferenceIdeal.main_v107) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x40x128 : Shape := ⟨4, ![2, 1024, 40, 128]⟩
abbrev S2x103x40x128 : Shape := ⟨4, ![2, 103, 40, 128]⟩
abbrev S2x40x128 : Shape := ⟨3, ![2, 40, 128]⟩
abbrev S2x512x40x128 : Shape := ⟨4, ![2, 512, 40, 128]⟩
abbrev S1x1024x8x128 : Shape := ⟨4, ![1, 1024, 8, 128]⟩
abbrev S1x103x8x128 : Shape := ⟨4, ![1, 103, 8, 128]⟩
abbrev S1x8x128 : Shape := ⟨3, ![1, 8, 128]⟩
abbrev S1x512x8x128 : Shape := ⟨4, ![1, 512, 8, 128]⟩
abbrev S1x1x8x128 : Shape := ⟨4, ![1, 1, 8, 128]⟩
abbrev S8x128 : Shape := ⟨2, ![8, 128]⟩
abbrev S1x2x8x128 : Shape := ⟨4, ![1, 2, 8, 128]⟩
abbrev S2x8x128 : Shape := ⟨3, ![2, 8, 128]⟩
abbrev S16x128 : Shape := ⟨2, ![16, 128]⟩
abbrev S32x128 : Shape := ⟨2, ![32, 128]⟩
abbrev S4x8x128 : Shape := ⟨3, ![4, 8, 128]⟩
abbrev S1x4x8x128 : Shape := ⟨4, ![1, 4, 8, 128]⟩

abbrev nBuf : Space → Nat
  | .hbm => 12
  | .vmem => 24
  | .smem => 0
  | _ => 0

abbrev bufTy : (tb : Table) → Fin (tcTables nBuf tb) → BufTy
  | .hbm, ⟨0, _⟩ => ⟨S2x1024x40x128, .bf16⟩
  | .hbm, ⟨1, _⟩ => ⟨S2x1024x40x128, .bf16⟩
  | .hbm, ⟨2, _⟩ => ⟨S2x1024x40x128, .bf16⟩
  | .hbm, ⟨3, _⟩ => ⟨S2x1024x40x128, .bf16⟩
  | .hbm, ⟨4, _⟩ => ⟨S2x103x40x128, .i8⟩
  | .hbm, ⟨5, _⟩ => ⟨S2x40x128, .f32⟩
  | .hbm, ⟨6, _⟩ => ⟨S2x512x40x128, .i8⟩
  | .hbm, ⟨7, _⟩ => ⟨S2x103x40x128, .f32⟩
  | .hbm, ⟨8, _⟩ => ⟨S2x103x40x128, .i8⟩
  | .hbm, ⟨9, _⟩ => ⟨S2x40x128, .f32⟩
  | .hbm, ⟨10, _⟩ => ⟨S2x512x40x128, .i8⟩
  | .hbm, ⟨11, _⟩ => ⟨S2x103x40x128, .f32⟩
  | .local _ .vmem, ⟨0, _⟩ => ⟨S1x1024x8x128, .bf16⟩
  | .local _ .vmem, ⟨1, _⟩ => ⟨S1x1024x8x128, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1x1024x8x128, .bf16⟩
  | .local _ .vmem, ⟨5, _⟩ => ⟨S1x1024x8x128, .bf16⟩
  | .local _ .vmem, ⟨6, _⟩ => ⟨S1x1024x8x128, .bf16⟩
  | .local _ .vmem, ⟨7, _⟩ => ⟨S1x1024x8x128, .bf16⟩
  | .local _ .vmem, ⟨8, _⟩ => ⟨S1x103x8x128, .i8⟩
  | .local _ .vmem, ⟨9, _⟩ => ⟨S1x103x8x128, .i8⟩
  | .local _ .vmem, ⟨10, _⟩ => ⟨S1x8x128, .f32⟩
  | .local _ .vmem, ⟨11, _⟩ => ⟨S1x8x128, .f32⟩
  | .local _ .vmem, ⟨12, _⟩ => ⟨S1x512x8x128, .i8⟩
  | .local _ .vmem, ⟨13, _⟩ => ⟨S1x512x8x128, .i8⟩
  | .local _ .vmem, ⟨14, _⟩ => ⟨S1x103x8x128, .f32⟩
  | .local _ .vmem, ⟨15, _⟩ => ⟨S1x103x8x128, .f32⟩
  | .local _ .vmem, ⟨16, _⟩ => ⟨S1x103x8x128, .i8⟩
  | .local _ .vmem, ⟨17, _⟩ => ⟨S1x103x8x128, .i8⟩
  | .local _ .vmem, ⟨18, _⟩ => ⟨S1x8x128, .f32⟩
  | .local _ .vmem, ⟨19, _⟩ => ⟨S1x8x128, .f32⟩
  | .local _ .vmem, ⟨20, _⟩ => ⟨S1x512x8x128, .i8⟩
  | .local _ .vmem, ⟨21, _⟩ => ⟨S1x512x8x128, .i8⟩
  | .local _ .vmem, ⟨22, _⟩ => ⟨S1x103x8x128, .f32⟩
  | .local _ .vmem, ⟨23, _⟩ => ⟨S1x103x8x128, .f32⟩
  | _, _ => ⟨S2x1024x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev main_v0_8 : Ref sig .tc := ⟨.hbm, 10, rfl⟩
abbrev main_v0_9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 5], ![false, false]⟩

@[reducible] def k0_t1_loop : Scf.Loop 32 :=
  let c1_i32 : BitVec 32 := 1#32
  let c102_i32 : BitVec 32 := 102#32
  let v4 : BitVec 32 := Scalar.addi c1_i32 c102_i32
  let c1_i32_3 : BitVec 32 := 1#32
  ⟨c1_i32, v4, c1_i32_3⟩
def k0_off1 (k0_t1 : Fin k0_t1_loop.trips) : Fin 4 → Nat :=
  let c0_412 : Index := 0#32
  let c1_i32 : BitVec 32 := 1#32
  let c1_i32_3 : BitVec 32 := 1#32
  let arg14 : BitVec 32 := Scf.iv c1_i32 c1_i32_3 k0_t1
  let c10_i32 : BitVec 32 := 10#32
  let v1082 : BitVec 32 := Scalar.muli arg14 c10_i32
  let v1083 : Index := Scalar.indexCast v1082
  let c0_413 : Index := 0#32
  let c0_414 : Index := 0#32
  ![0, v1083.toNat, 0, 0]
@[reducible] def k0_t2_loop : Scf.Loop 32 :=
  let c0_i32 : BitVec 32 := 0#32
  let c25_i32 : BitVec 32 := 25#32
  let v15 : BitVec 32 := Scalar.addi c0_i32 c25_i32
  let c1_i32_10 : BitVec 32 := 1#32
  ⟨c0_i32, v15, c1_i32_10⟩
def k0_off2 (k0_t2 : Fin k0_t2_loop.trips) (c0_i32_412 : BitVec 32) : Fin 4 → Nat :=
  let c0_413 : Index := 0#32
  let c0_i32 : BitVec 32 := 0#32
  let c1_i32_10 : BitVec 32 := 1#32
  let arg14 : BitVec 32 := Scf.iv c0_i32 c1_i32_10 k0_t2
  let c40_i32 : BitVec 32 := 40#32
  let v1082 : BitVec 32 := Scalar.muli arg14 c40_i32
  let v1084 : BitVec 32 := Scalar.addi v1082 c0_i32_412
  let v1085 : Index := Scalar.indexCast v1084
  let c0_414 : Index := 0#32
  let c0_415 : Index := 0#32
  ![0, v1085.toNat, 0, 0]
def k0_off3 (k0_t2 : Fin k0_t2_loop.trips) : Fin 4 → Nat :=
  let c0_431 : Index := 0#32
  let c0_i32 : BitVec 32 := 0#32
  let c1_i32_10 : BitVec 32 := 1#32
  let arg14 : BitVec 32 := Scf.iv c0_i32 c1_i32_10 k0_t2
  let c4_i32 : BitVec 32 := 4#32
  let v1083 : BitVec 32 := Scalar.muli arg14 c4_i32
  let v1138 : Index := Scalar.indexCast v1083
  let c0_432 : Index := 0#32
  let c0_433 : Index := 0#32
  ![0, v1138.toNat, 0, 0]
def k0_off4 (k0_t2 : Fin k0_t2_loop.trips) (c0_i32_481 : BitVec 32) : Fin 4 → Nat :=
  let c0_482 : Index := 0#32
  let c0_i32 : BitVec 32 := 0#32
  let c1_i32_10 : BitVec 32 := 1#32
  let arg14 : BitVec 32 := Scf.iv c0_i32 c1_i32_10 k0_t2
  let c40_i32 : BitVec 32 := 40#32
  let v1082 : BitVec 32 := Scalar.muli arg14 c40_i32
  let c10_i32 : BitVec 32 := 10#32
  let v1296 : BitVec 32 := Scalar.addi v1082 c10_i32
  let v1298 : BitVec 32 := Scalar.addi v1296 c0_i32_481
  let v1299 : Index := Scalar.indexCast v1298
  let c0_483 : Index := 0#32
  let c0_484 : Index := 0#32
  ![0, v1299.toNat, 0, 0]
def k0_off5 (k0_t2 : Fin k0_t2_loop.trips) : Fin 4 → Nat :=
  let c0_503 : Index := 0#32
  let c0_i32 : BitVec 32 := 0#32
  let c1_i32_10 : BitVec 32 := 1#32
  let arg14 : BitVec 32 := Scf.iv c0_i32 c1_i32_10 k0_t2
  let c4_i32 : BitVec 32 := 4#32
  let v1083 : BitVec 32 := Scalar.muli arg14 c4_i32
  let c1_i32_480 : BitVec 32 := 1#32
  let v1297 : BitVec 32 := Scalar.addi v1083 c1_i32_480
  let v1352 : Index := Scalar.indexCast v1297
  let c0_504 : Index := 0#32
  let c0_505 : Index := 0#32
  ![0, v1352.toNat, 0, 0]
def k0_off6 (k0_t2 : Fin k0_t2_loop.trips) (c0_i32_554 : BitVec 32) : Fin 4 → Nat :=
  let c0_555 : Index := 0#32
  let c0_i32 : BitVec 32 := 0#32
  let c1_i32_10 : BitVec 32 := 1#32
  let arg14 : BitVec 32 := Scf.iv c0_i32 c1_i32_10 k0_t2
  let c40_i32 : BitVec 32 := 40#32
  let v1082 : BitVec 32 := Scalar.muli arg14 c40_i32
  let c10_i32 : BitVec 32 := 10#32
  let v1296 : BitVec 32 := Scalar.addi v1082 c10_i32
  let c10_i32_552 : BitVec 32 := 10#32
  let v1510 : BitVec 32 := Scalar.addi v1296 c10_i32_552
  let v1512 : BitVec 32 := Scalar.addi v1510 c0_i32_554
  let v1513 : Index := Scalar.indexCast v1512
  let c0_556 : Index := 0#32
  let c0_557 : Index := 0#32
  ![0, v1513.toNat, 0, 0]
def k0_off7 (k0_t2 : Fin k0_t2_loop.trips) : Fin 4 → Nat :=
  let c0_576 : Index := 0#32
  let c0_i32 : BitVec 32 := 0#32
  let c1_i32_10 : BitVec 32 := 1#32
  let arg14 : BitVec 32 := Scf.iv c0_i32 c1_i32_10 k0_t2
  let c4_i32 : BitVec 32 := 4#32
  let v1083 : BitVec 32 := Scalar.muli arg14 c4_i32
  let c1_i32_480 : BitVec 32 := 1#32
  let v1297 : BitVec 32 := Scalar.addi v1083 c1_i32_480
  let c1_i32_553 : BitVec 32 := 1#32
  let v1511 : BitVec 32 := Scalar.addi v1297 c1_i32_553
  let v1566 : Index := Scalar.indexCast v1511
  let c0_577 : Index := 0#32
  let c0_578 : Index := 0#32
  ![0, v1566.toNat, 0, 0]
def k0_off8 (k0_t2 : Fin k0_t2_loop.trips) (c0_i32_627 : BitVec 32) : Fin 4 → Nat :=
  let c0_628 : Index := 0#32
  let c0_i32 : BitVec 32 := 0#32
  let c1_i32_10 : BitVec 32 := 1#32
  let arg14 : BitVec 32 := Scf.iv c0_i32 c1_i32_10 k0_t2
  let c40_i32 : BitVec 32 := 40#32
  let v1082 : BitVec 32 := Scalar.muli arg14 c40_i32
  let c10_i32 : BitVec 32 := 10#32
  let v1296 : BitVec 32 := Scalar.addi v1082 c10_i32
  let c10_i32_552 : BitVec 32 := 10#32
  let v1510 : BitVec 32 := Scalar.addi v1296 c10_i32_552
  let c10_i32_625 : BitVec 32 := 10#32
  let v1724 : BitVec 32 := Scalar.addi v1510 c10_i32_625
  let v1726 : BitVec 32 := Scalar.addi v1724 c0_i32_627
  let v1727 : Index := Scalar.indexCast v1726
  let c0_629 : Index := 0#32
  let c0_630 : Index := 0#32
  ![0, v1727.toNat, 0, 0]
def k0_off9 (k0_t2 : Fin k0_t2_loop.trips) : Fin 4 → Nat :=
  let c0_649 : Index := 0#32
  let c0_i32 : BitVec 32 := 0#32
  let c1_i32_10 : BitVec 32 := 1#32
  let arg14 : BitVec 32 := Scf.iv c0_i32 c1_i32_10 k0_t2
  let c4_i32 : BitVec 32 := 4#32
  let v1083 : BitVec 32 := Scalar.muli arg14 c4_i32
  let c1_i32_480 : BitVec 32 := 1#32
  let v1297 : BitVec 32 := Scalar.addi v1083 c1_i32_480
  let c1_i32_553 : BitVec 32 := 1#32
  let v1511 : BitVec 32 := Scalar.addi v1297 c1_i32_553
  let c1_i32_626 : BitVec 32 := 1#32
  let v1725 : BitVec 32 := Scalar.addi v1511 c1_i32_626
  let v1780 : Index := Scalar.indexCast v1725
  let c0_650 : Index := 0#32
  let c0_651 : Index := 0#32
  ![0, v1780.toNat, 0, 0]
def k0_off10 (k0_t2 : Fin k0_t2_loop.trips) (c0_i32_700 : BitVec 32) : Fin 4 → Nat :=
  let c0_701 : Index := 0#32
  let c0_i32 : BitVec 32 := 0#32
  let c1_i32_10 : BitVec 32 := 1#32
  let arg14 : BitVec 32 := Scf.iv c0_i32 c1_i32_10 k0_t2
  let c20_i32 : BitVec 32 := 20#32
  let v1938 : BitVec 32 := Scalar.muli arg14 c20_i32
  let v1953 : BitVec 32 := Scalar.addi v1938 c0_i32_700
  let v1954 : Index := Scalar.indexCast v1953
  let c0_702 : Index := 0#32
  let c0_703 : Index := 0#32
  ![0, v1954.toNat, 0, 0]
@[reducible] def k0_t3_loop : Scf.Loop 32 :=
  let c1_i32_197 : BitVec 32 := 1#32
  let c102_i32_198 : BitVec 32 := 102#32
  let v545 : BitVec 32 := Scalar.addi c1_i32_197 c102_i32_198
  let c1_i32_199 : BitVec 32 := 1#32
  ⟨c1_i32_197, v545, c1_i32_199⟩
def k0_off11 (k0_t3 : Fin k0_t3_loop.trips) : Fin 4 → Nat :=
  let c0_412 : Index := 0#32
  let c1_i32_197 : BitVec 32 := 1#32
  let c1_i32_199 : BitVec 32 := 1#32
  let arg14 : BitVec 32 := Scf.iv c1_i32_197 c1_i32_199 k0_t3
  let c10_i32 : BitVec 32 := 10#32
  let v1082 : BitVec 32 := Scalar.muli arg14 c10_i32
  let v1083 : Index := Scalar.indexCast v1082
  let c0_413 : Index := 0#32
  let c0_414 : Index := 0#32
  ![0, v1083.toNat, 0, 0]
@[reducible] def k0_t4_loop : Scf.Loop 32 :=
  let c0_i32_207 : BitVec 32 := 0#32
  let c25_i32_208 : BitVec 32 := 25#32
  let v556 : BitVec 32 := Scalar.addi c0_i32_207 c25_i32_208
  let c1_i32_209 : BitVec 32 := 1#32
  ⟨c0_i32_207, v556, c1_i32_209⟩
def k0_off12 (k0_t4 : Fin k0_t4_loop.trips) (c0_i32_412 : BitVec 32) : Fin 4 → Nat :=
  let c0_413 : Index := 0#32
  let c0_i32_207 : BitVec 32 := 0#32
  let c1_i32_209 : BitVec 32 := 1#32
  let arg14 : BitVec 32 := Scf.iv c0_i32_207 c1_i32_209 k0_t4
  let c40_i32 : BitVec 32 := 40#32
  let v1082 : BitVec 32 := Scalar.muli arg14 c40_i32
  let v1084 : BitVec 32 := Scalar.addi v1082 c0_i32_412
  let v1085 : Index := Scalar.indexCast v1084
  let c0_414 : Index := 0#32
  let c0_415 : Index := 0#32
  ![0, v1085.toNat, 0, 0]
def k0_off13 (k0_t4 : Fin k0_t4_loop.trips) : Fin 4 → Nat :=
  let c0_431 : Index := 0#32
  let c0_i32_207 : BitVec 32 := 0#32
  let c1_i32_209 : BitVec 32 := 1#32
  let arg14 : BitVec 32 := Scf.iv c0_i32_207 c1_i32_209 k0_t4
  let c4_i32 : BitVec 32 := 4#32
  let v1083 : BitVec 32 := Scalar.muli arg14 c4_i32
  let v1138 : Index := Scalar.indexCast v1083
  let c0_432 : Index := 0#32
  let c0_433 : Index := 0#32
  ![0, v1138.toNat, 0, 0]
def k0_off14 (k0_t4 : Fin k0_t4_loop.trips) (c0_i32_481 : BitVec 32) : Fin 4 → Nat :=
  let c0_482 : Index := 0#32
  let c0_i32_207 : BitVec 32 := 0#32
  let c1_i32_209 : BitVec 32 := 1#32
  let arg14 : BitVec 32 := Scf.iv c0_i32_207 c1_i32_209 k0_t4
  let c40_i32 : BitVec 32 := 40#32
  let v1082 : BitVec 32 := Scalar.muli arg14 c40_i32
  let c10_i32 : BitVec 32 := 10#32
  let v1296 : BitVec 32 := Scalar.addi v1082 c10_i32
  let v1298 : BitVec 32 := Scalar.addi v1296 c0_i32_481
  let v1299 : Index := Scalar.indexCast v1298
  let c0_483 : Index := 0#32
  let c0_484 : Index := 0#32
  ![0, v1299.toNat, 0, 0]
def k0_off15 (k0_t4 : Fin k0_t4_loop.trips) : Fin 4 → Nat :=
  let c0_503 : Index := 0#32
  let c0_i32_207 : BitVec 32 := 0#32
  let c1_i32_209 : BitVec 32 := 1#32
  let arg14 : BitVec 32 := Scf.iv c0_i32_207 c1_i32_209 k0_t4
  let c4_i32 : BitVec 32 := 4#32
  let v1083 : BitVec 32 := Scalar.muli arg14 c4_i32
  let c1_i32_480 : BitVec 32 := 1#32
  let v1297 : BitVec 32 := Scalar.addi v1083 c1_i32_480
  let v1352 : Index := Scalar.indexCast v1297
  let c0_504 : Index := 0#32
  let c0_505 : Index := 0#32
  ![0, v1352.toNat, 0, 0]
def k0_off16 (k0_t4 : Fin k0_t4_loop.trips) (c0_i32_554 : BitVec 32) : Fin 4 → Nat :=
  let c0_555 : Index := 0#32
  let c0_i32_207 : BitVec 32 := 0#32
  let c1_i32_209 : BitVec 32 := 1#32
  let arg14 : BitVec 32 := Scf.iv c0_i32_207 c1_i32_209 k0_t4
  let c40_i32 : BitVec 32 := 40#32
  let v1082 : BitVec 32 := Scalar.muli arg14 c40_i32
  let c10_i32 : BitVec 32 := 10#32
  let v1296 : BitVec 32 := Scalar.addi v1082 c10_i32
  let c10_i32_552 : BitVec 32 := 10#32
  let v1510 : BitVec 32 := Scalar.addi v1296 c10_i32_552
  let v1512 : BitVec 32 := Scalar.addi v1510 c0_i32_554
  let v1513 : Index := Scalar.indexCast v1512
  let c0_556 : Index := 0#32
  let c0_557 : Index := 0#32
  ![0, v1513.toNat, 0, 0]
def k0_off17 (k0_t4 : Fin k0_t4_loop.trips) : Fin 4 → Nat :=
  let c0_576 : Index := 0#32
  let c0_i32_207 : BitVec 32 := 0#32
  let c1_i32_209 : BitVec 32 := 1#32
  let arg14 : BitVec 32 := Scf.iv c0_i32_207 c1_i32_209 k0_t4
  let c4_i32 : BitVec 32 := 4#32
  let v1083 : BitVec 32 := Scalar.muli arg14 c4_i32
  let c1_i32_480 : BitVec 32 := 1#32
  let v1297 : BitVec 32 := Scalar.addi v1083 c1_i32_480
  let c1_i32_553 : BitVec 32 := 1#32
  let v1511 : BitVec 32 := Scalar.addi v1297 c1_i32_553
  let v1566 : Index := Scalar.indexCast v1511
  let c0_577 : Index := 0#32
  let c0_578 : Index := 0#32
  ![0, v1566.toNat, 0, 0]
def k0_off18 (k0_t4 : Fin k0_t4_loop.trips) (c0_i32_627 : BitVec 32) : Fin 4 → Nat :=
  let c0_628 : Index := 0#32
  let c0_i32_207 : BitVec 32 := 0#32
  let c1_i32_209 : BitVec 32 := 1#32
  let arg14 : BitVec 32 := Scf.iv c0_i32_207 c1_i32_209 k0_t4
  let c40_i32 : BitVec 32 := 40#32
  let v1082 : BitVec 32 := Scalar.muli arg14 c40_i32
  let c10_i32 : BitVec 32 := 10#32
  let v1296 : BitVec 32 := Scalar.addi v1082 c10_i32
  let c10_i32_552 : BitVec 32 := 10#32
  let v1510 : BitVec 32 := Scalar.addi v1296 c10_i32_552
  let c10_i32_625 : BitVec 32 := 10#32
  let v1724 : BitVec 32 := Scalar.addi v1510 c10_i32_625
  let v1726 : BitVec 32 := Scalar.addi v1724 c0_i32_627
  let v1727 : Index := Scalar.indexCast v1726
  let c0_629 : Index := 0#32
  let c0_630 : Index := 0#32
  ![0, v1727.toNat, 0, 0]
def k0_off19 (k0_t4 : Fin k0_t4_loop.trips) : Fin 4 → Nat :=
  let c0_649 : Index := 0#32
  let c0_i32_207 : BitVec 32 := 0#32
  let c1_i32_209 : BitVec 32 := 1#32
  let arg14 : BitVec 32 := Scf.iv c0_i32_207 c1_i32_209 k0_t4
  let c4_i32 : BitVec 32 := 4#32
  let v1083 : BitVec 32 := Scalar.muli arg14 c4_i32
  let c1_i32_480 : BitVec 32 := 1#32
  let v1297 : BitVec 32 := Scalar.addi v1083 c1_i32_480
  let c1_i32_553 : BitVec 32 := 1#32
  let v1511 : BitVec 32 := Scalar.addi v1297 c1_i32_553
  let c1_i32_626 : BitVec 32 := 1#32
  let v1725 : BitVec 32 := Scalar.addi v1511 c1_i32_626
  let v1780 : Index := Scalar.indexCast v1725
  let c0_650 : Index := 0#32
  let c0_651 : Index := 0#32
  ![0, v1780.toNat, 0, 0]
def k0_off20 (k0_t4 : Fin k0_t4_loop.trips) (c0_i32_700 : BitVec 32) : Fin 4 → Nat :=
  let c0_701 : Index := 0#32
  let c0_i32_207 : BitVec 32 := 0#32
  let c1_i32_209 : BitVec 32 := 1#32
  let arg14 : BitVec 32 := Scf.iv c0_i32_207 c1_i32_209 k0_t4
  let c20_i32 : BitVec 32 := 20#32
  let v1938 : BitVec 32 := Scalar.muli arg14 c20_i32
  let v1953 : BitVec 32 := Scalar.addi v1938 c0_i32_700
  let v1954 : Index := Scalar.indexCast v1953
  let c0_702 : Index := 0#32
  let c0_703 : Index := 0#32
  ![0, v1954.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x103x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x8x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x103x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x103x8x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x8x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x103x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x1024x40x128 : Shape := ⟨4, ![2, 1024, 40, 128]⟩
abbrev S1024 : Shape := ⟨1, ![1024]⟩
abbrev S_ : Shape := ⟨0, ![]⟩
abbrev S2x103x40x128 : Shape := ⟨4, ![2, 103, 40, 128]⟩
abbrev S2x40x128 : Shape := ⟨3, ![2, 40, 128]⟩
abbrev S2x1x40x128 : Shape := ⟨4, ![2, 1, 40, 128]⟩
abbrev S1024x1 : Shape := ⟨2, ![1024, 1]⟩
abbrev S2x1030x40x128 : Shape := ⟨4, ![2, 1030, 40, 128]⟩
abbrev S2x103x10x40x128 : Shape := ⟨5, ![2, 103, 10, 40, 128]⟩
abbrev S2x512x40x128 : Shape := ⟨4, ![2, 512, 40, 128]⟩

abbrev nBuf : Space → Nat
  | .hbm => 238
  | .vmem => 0
  | .smem => 0
  | _ => 0

abbrev hbmTy0_0 (i : Nat) : BufTy := match i % 128 with
  | 0 => ⟨S2x1024x40x128, .bf16⟩
  | 1 => ⟨S2x1024x40x128, .bf16⟩
  | 2 => ⟨S1024, .i32⟩
  | 3 => ⟨S_, .i32⟩
  | 4 => ⟨S_, .i32⟩
  | 5 => ⟨S1024, .i32⟩
  | 6 => ⟨S1024, .i32⟩
  | 7 => ⟨S1024, .i32⟩
  | 8 => ⟨S_, .i32⟩
  | 9 => ⟨S1024, .i32⟩
  | 10 => ⟨S1024, .i1⟩
  | 11 => ⟨S1024, .i32⟩
  | 12 => ⟨S1024, .i32⟩
  | 13 => ⟨S_, .i32⟩
  | 14 => ⟨S1024, .i32⟩
  | 15 => ⟨S1024, .i1⟩
  | 16 => ⟨S1024, .i1⟩
  | 17 => ⟨S_, .i32⟩
  | 18 => ⟨S1024, .i32⟩
  | 19 => ⟨S1024, .i32⟩
  | 20 => ⟨S1024, .i32⟩
  | 21 => ⟨S2x103x40x128, .bf16⟩
  | 22 => ⟨S2x103x40x128, .f32⟩
  | 23 => ⟨S2x103x40x128, .f32⟩
  | 24 => ⟨S_, .f32⟩
  | 25 => ⟨S2x40x128, .f32⟩
  | 26 => ⟨S_, .f32⟩
  | 27 => ⟨S2x40x128, .f32⟩
  | 28 => ⟨S2x40x128, .i1⟩
  | 29 => ⟨S_, .f32⟩
  | 30 => ⟨S2x40x128, .f32⟩
  | 31 => ⟨S2x40x128, .f32⟩
  | 32 => ⟨S_, .f32⟩
  | 33 => ⟨S_, .f32⟩
  | 34 => ⟨S2x40x128, .f32⟩
  | 35 => ⟨S2x40x128, .f32⟩
  | 36 => ⟨S2x1x40x128, .f32⟩
  | 37 => ⟨S2x103x40x128, .f32⟩
  | 38 => ⟨S2x103x40x128, .f32⟩
  | 39 => ⟨S2x103x40x128, .f32⟩
  | 40 => ⟨S_, .f32⟩
  | 41 => ⟨S_, .f32⟩
  | 42 => ⟨S_, .f32⟩
  | 43 => ⟨S2x103x40x128, .f32⟩
  | 44 => ⟨S2x103x40x128, .f32⟩
  | 45 => ⟨S_, .f32⟩
  | 46 => ⟨S2x103x40x128, .f32⟩
  | 47 => ⟨S2x103x40x128, .f32⟩
  | 48 => ⟨S2x103x40x128, .i32⟩
  | 49 => ⟨S2x103x40x128, .i8⟩
  | 50 => ⟨S2x103x40x128, .i32⟩
  | 51 => ⟨S2x103x40x128, .f32⟩
  | 52 => ⟨S2x1x40x128, .f32⟩
  | 53 => ⟨S2x103x40x128, .f32⟩
  | 54 => ⟨S2x103x40x128, .f32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S2x1024x40x128, .f32⟩
  | 64 => ⟨S2x1024x40x128, .f32⟩
  | 65 => ⟨S2x1024x40x128, .f32⟩
  | 66 => ⟨S2x1024x40x128, .f32⟩
  | 67 => ⟨S_, .i32⟩
  | 68 => ⟨S_, .f32⟩
  | 69 => ⟨S2x1030x40x128, .f32⟩
  | 70 => ⟨S2x103x10x40x128, .f32⟩
  | 71 => ⟨S_, .f32⟩
  | 72 => ⟨S2x103x40x128, .f32⟩
  | 73 => ⟨S_, .f32⟩
  | 74 => ⟨S2x103x40x128, .f32⟩
  | 75 => ⟨S2x103x40x128, .i1⟩
  | 76 => ⟨S_, .f32⟩
  | 77 => ⟨S2x103x40x128, .f32⟩
  | 78 => ⟨S2x103x40x128, .f32⟩
  | 79 => ⟨S_, .f32⟩
  | 80 => ⟨S_, .f32⟩
  | 81 => ⟨S2x103x40x128, .f32⟩
  | 82 => ⟨S2x103x40x128, .f32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S1024x1, .i32⟩
  | 91 => ⟨S2x1024x40x128, .f32⟩
  | 92 => ⟨S2x1024x40x128, .f32⟩
  | 93 => ⟨S2x1024x40x128, .f32⟩
  | 94 => ⟨S_, .f32⟩
  | 95 => ⟨S_, .f32⟩
  | 96 => ⟨S_, .f32⟩
  | 97 => ⟨S2x1024x40x128, .f32⟩
  | 98 => ⟨S2x1024x40x128, .f32⟩
  | 99 => ⟨S_, .f32⟩
  | 100 => ⟨S2x1024x40x128, .f32⟩
  | 101 => ⟨S2x1024x40x128, .f32⟩
  | 102 => ⟨S2x1024x40x128, .i32⟩
  | 103 => ⟨S2x1024x40x128, .i8⟩
  | 104 => ⟨S2x1024x40x128, .i32⟩
  | 105 => ⟨S_, .i32⟩
  | 106 => ⟨S2x1024x40x128, .i32⟩
  | 107 => ⟨S2x1024x40x128, .i32⟩
  | 108 => ⟨S2x512x40x128, .i32⟩
  | 109 => ⟨S2x512x40x128, .i32⟩
  | 110 => ⟨S_, .i32⟩
  | 111 => ⟨S2x512x40x128, .i32⟩
  | 112 => ⟨S2x512x40x128, .i32⟩
  | 113 => ⟨S2x512x40x128, .i32⟩
  | 114 => ⟨S2x512x40x128, .i8⟩
  | 115 => ⟨S2x1024x40x128, .i32⟩
  | 116 => ⟨S2x1024x40x128, .f32⟩
  | 117 => ⟨S2x1024x40x128, .f32⟩
  | 118 => ⟨S2x1024x40x128, .f32⟩
  | 119 => ⟨S2x1024x40x128, .bf16⟩
  | 120 => ⟨S1024, .i32⟩
  | 121 => ⟨S_, .i32⟩
  | 122 => ⟨S_, .i32⟩
  | 123 => ⟨S1024, .i32⟩
  | 124 => ⟨S1024, .i32⟩
  | 125 => ⟨S1024, .i32⟩
  | 126 => ⟨S_, .i32⟩
  | 127 => ⟨S1024, .i32⟩
  | _ => ⟨S2x1024x40x128, .bf16⟩

abbrev hbmTy0_1 (i : Nat) : BufTy := match i % 128 with
  | 0 => ⟨S1024, .i1⟩
  | 1 => ⟨S1024, .i32⟩
  | 2 => ⟨S1024, .i32⟩
  | 3 => ⟨S_, .i32⟩
  | 4 => ⟨S1024, .i32⟩
  | 5 => ⟨S1024, .i1⟩
  | 6 => ⟨S1024, .i1⟩
  | 7 => ⟨S_, .i32⟩
  | 8 => ⟨S1024, .i32⟩
  | 9 => ⟨S1024, .i32⟩
  | 10 => ⟨S1024, .i32⟩
  | 11 => ⟨S2x103x40x128, .bf16⟩
  | 12 => ⟨S2x103x40x128, .f32⟩
  | 13 => ⟨S2x103x40x128, .f32⟩
  | 14 => ⟨S_, .f32⟩
  | 15 => ⟨S2x40x128, .f32⟩
  | 16 => ⟨S_, .f32⟩
  | 17 => ⟨S2x40x128, .f32⟩
  | 18 => ⟨S2x40x128, .i1⟩
  | 19 => ⟨S_, .f32⟩
  | 20 => ⟨S2x40x128, .f32⟩
  | 21 => ⟨S2x40x128, .f32⟩
  | 22 => ⟨S_, .f32⟩
  | 23 => ⟨S_, .f32⟩
  | 24 => ⟨S2x40x128, .f32⟩
  | 25 => ⟨S2x40x128, .f32⟩
  | 26 => ⟨S2x1x40x128, .f32⟩
  | 27 => ⟨S2x103x40x128, .f32⟩
  | 28 => ⟨S2x103x40x128, .f32⟩
  | 29 => ⟨S2x103x40x128, .f32⟩
  | 30 => ⟨S_, .f32⟩
  | 31 => ⟨S_, .f32⟩
  | 32 => ⟨S_, .f32⟩
  | 33 => ⟨S2x103x40x128, .f32⟩
  | 34 => ⟨S2x103x40x128, .f32⟩
  | 35 => ⟨S_, .f32⟩
  | 36 => ⟨S2x103x40x128, .f32⟩
  | 37 => ⟨S2x103x40x128, .f32⟩
  | 38 => ⟨S2x103x40x128, .i32⟩
  | 39 => ⟨S2x103x40x128, .i8⟩
  | 40 => ⟨S2x103x40x128, .i32⟩
  | 41 => ⟨S2x103x40x128, .f32⟩
  | 42 => ⟨S2x1x40x128, .f32⟩
  | 43 => ⟨S2x103x40x128, .f32⟩
  | 44 => ⟨S2x103x40x128, .f32⟩
  | 45 => ⟨S_, .i32⟩
  | 46 => ⟨S1024, .i32⟩
  | 47 => ⟨S1024, .i1⟩
  | 48 => ⟨S_, .i32⟩
  | 49 => ⟨S1024, .i32⟩
  | 50 => ⟨S1024, .i32⟩
  | 51 => ⟨S1024, .i32⟩
  | 52 => ⟨S1024x1, .i32⟩
  | 53 => ⟨S2x1024x40x128, .f32⟩
  | 54 => ⟨S2x1024x40x128, .f32⟩
  | 55 => ⟨S2x1024x40x128, .f32⟩
  | 56 => ⟨S2x1024x40x128, .f32⟩
  | 57 => ⟨S_, .i32⟩
  | 58 => ⟨S_, .f32⟩
  | 59 => ⟨S2x1030x40x128, .f32⟩
  | 60 => ⟨S2x103x10x40x128, .f32⟩
  | 61 => ⟨S_, .f32⟩
  | 62 => ⟨S2x103x40x128, .f32⟩
  | 63 => ⟨S_, .f32⟩
  | 64 => ⟨S2x103x40x128, .f32⟩
  | 65 => ⟨S2x103x40x128, .i1⟩
  | 66 => ⟨S_, .f32⟩
  | 67 => ⟨S2x103x40x128, .f32⟩
  | 68 => ⟨S2x103x40x128, .f32⟩
  | 69 => ⟨S_, .f32⟩
  | 70 => ⟨S_, .f32⟩
  | 71 => ⟨S2x103x40x128, .f32⟩
  | 72 => ⟨S2x103x40x128, .f32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S2x1024x40x128, .f32⟩
  | 82 => ⟨S2x1024x40x128, .f32⟩
  | 83 => ⟨S2x1024x40x128, .f32⟩
  | 84 => ⟨S_, .f32⟩
  | 85 => ⟨S_, .f32⟩
  | 86 => ⟨S_, .f32⟩
  | 87 => ⟨S2x1024x40x128, .f32⟩
  | 88 => ⟨S2x1024x40x128, .f32⟩
  | 89 => ⟨S_, .f32⟩
  | 90 => ⟨S2x1024x40x128, .f32⟩
  | 91 => ⟨S2x1024x40x128, .f32⟩
  | 92 => ⟨S2x1024x40x128, .i32⟩
  | 93 => ⟨S2x1024x40x128, .i8⟩
  | 94 => ⟨S2x1024x40x128, .i32⟩
  | 95 => ⟨S_, .i32⟩
  | 96 => ⟨S2x1024x40x128, .i32⟩
  | 97 => ⟨S2x1024x40x128, .i32⟩
  | 98 => ⟨S2x512x40x128, .i32⟩
  | 99 => ⟨S2x512x40x128, .i32⟩
  | 100 => ⟨S_, .i32⟩
  | 101 => ⟨S2x512x40x128, .i32⟩
  | 102 => ⟨S2x512x40x128, .i32⟩
  | 103 => ⟨S2x512x40x128, .i32⟩
  | 104 => ⟨S2x512x40x128, .i8⟩
  | 105 => ⟨S2x1024x40x128, .i32⟩
  | 106 => ⟨S2x1024x40x128, .f32⟩
  | 107 => ⟨S2x1024x40x128, .f32⟩
  | 108 => ⟨S2x1024x40x128, .f32⟩
  | 109 => ⟨S2x1024x40x128, .bf16⟩
  | _ => ⟨S2x1024x40x128, .bf16⟩

abbrev hbmTy (i : Nat) : BufTy := match i / 128 with
  | 0 => hbmTy0_0 i
  | 1 => hbmTy0_1 i
  | _ => ⟨S2x1024x40x128, .bf16⟩

abbrev bufTy : (tb : Table) → Fin (tcTables nBuf tb) → BufTy
  | .hbm, ⟨i, _⟩ => hbmTy i
  | _, _ => ⟨S2x1024x40x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_3 : Ref sig .tc := ⟨.hbm, 40, rfl⟩
abbrev main_cst_4 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_c_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_call4_v0 : Ref sig .tc := ⟨.hbm, 68, rfl⟩
abbrev main_v33 : Ref sig .tc := ⟨.hbm, 69, rfl⟩
abbrev main_v34 : Ref sig .tc := ⟨.hbm, 70, rfl⟩
abbrev main_cst_8 : Ref sig .tc := ⟨.hbm, 71, rfl⟩
abbrev main_v35 : Ref sig .tc := ⟨.hbm, 72, rfl⟩
abbrev main_cst_9 : Ref sig .tc := ⟨.hbm, 73, rfl⟩
abbrev main_v36 : Ref sig .tc := ⟨.hbm, 74, rfl⟩
abbrev main_v37 : Ref sig .tc := ⟨.hbm, 75, rfl⟩
abbrev main_cst_10 : Ref sig .tc := ⟨.hbm, 76, rfl⟩
abbrev main_v38 : Ref sig .tc := ⟨.hbm, 77, rfl⟩
abbrev main_v39 : Ref sig .tc := ⟨.hbm, 78, rfl⟩
abbrev main_cst_11 : Ref sig .tc := ⟨.hbm, 79, rfl⟩
abbrev main_call5_v0 : Ref sig .tc := ⟨.hbm, 80, rfl⟩
abbrev main_call5_v1 : Ref sig .tc := ⟨.hbm, 81, rfl⟩
abbrev main_v40 : Ref sig .tc := ⟨.hbm, 82, rfl⟩
abbrev main_c_12 : Ref sig .tc := ⟨.hbm, 83, rfl⟩
abbrev main_v41 : Ref sig .tc := ⟨.hbm, 84, rfl⟩
abbrev main_v42 : Ref sig .tc := ⟨.hbm, 85, rfl⟩
abbrev main_c_13 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_14 : Ref sig .tc := ⟨.hbm, 94, rfl⟩
abbrev main_cst_15 : Ref sig .tc := ⟨.hbm, 95, rfl⟩
abbrev main_call7_v0 : Ref sig .tc := ⟨.hbm, 96, rfl⟩
abbrev main_call7_v1 : Ref sig .tc := ⟨.hbm, 97, rfl⟩
abbrev main_call7_v2 : Ref sig .tc := ⟨.hbm, 98, rfl⟩
abbrev main_call7_v3 : Ref sig .tc := ⟨.hbm, 99, rfl⟩
abbrev main_call7_v4 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_16 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_c_17 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_c_18 : Ref sig .tc := ⟨.hbm, 121, rfl⟩
abbrev main_call8_v0 : Ref sig .tc := ⟨.hbm, 122, rfl⟩
abbrev main_call8_v1 : Ref sig .tc := ⟨.hbm, 123, rfl⟩
abbrev main_call8_v2 : Ref sig .tc := ⟨.hbm, 124, rfl⟩
abbrev main_call8_v3 : Ref sig .tc := ⟨.hbm, 125, rfl⟩
abbrev main_call8_v4 : Ref sig .tc := ⟨.hbm, 126, rfl⟩
abbrev main_call8_v5 : Ref sig .tc := ⟨.hbm, 127, rfl⟩
abbrev main_call8_v6 : Ref sig .tc := ⟨.hbm, 128, rfl⟩
abbrev main_call8_v7 : Ref sig .tc := ⟨.hbm, 129, rfl⟩
abbrev main_call8_v8 : Ref sig .tc := ⟨.hbm, 130, rfl⟩
abbrev main_call8_c : Ref sig .tc := ⟨.hbm, 131, rfl⟩
abbrev main_call8_v9 : Ref sig .tc := ⟨.hbm, 132, rfl⟩
abbrev main_call8_v10 : Ref sig .tc := ⟨.hbm, 133, rfl⟩
abbrev main_call8_v11 : Ref sig .tc := ⟨.hbm, 134, rfl⟩
abbrev main_call8_c_0 : Ref sig .tc := ⟨.hbm, 135, rfl⟩
abbrev main_call8_v12 : Ref sig .tc := ⟨.hbm, 136, rfl⟩
abbrev main_call8_v13 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_19 : Ref sig .tc := ⟨.hbm, 142, rfl⟩
abbrev main_v72 : Ref sig .tc := ⟨.hbm, 143, rfl⟩
abbrev main_cst_20 : Ref sig .tc := ⟨.hbm, 144, rfl⟩
abbrev main_v73 : Ref sig .tc := ⟨.hbm, 145, rfl⟩
abbrev main_v74 : Ref sig .tc := ⟨.hbm, 146, rfl⟩
abbrev main_cst_21 : Ref sig .tc := ⟨.hbm, 147, rfl⟩
abbrev main_v75 : Ref sig .tc := ⟨.hbm, 148, rfl⟩
abbrev main_v76 : Ref sig .tc := ⟨.hbm, 149, rfl⟩
abbrev main_cst_22 : Ref sig .tc := ⟨.hbm, 150, rfl⟩
abbrev main_call9_v0 : Ref sig .tc := ⟨.hbm, 151, rfl⟩
abbrev main_call9_v1 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_cst_23 : Ref sig .tc := ⟨.hbm, 158, rfl⟩
abbrev main_cst_24 : Ref sig .tc := ⟨.hbm, 159, rfl⟩
abbrev main_call11_v0 : Ref sig .tc := ⟨.hbm, 160, rfl⟩
abbrev main_call11_v1 : Ref sig .tc := ⟨.hbm, 161, rfl⟩
abbrev main_call11_v2 : Ref sig .tc := ⟨.hbm, 162, rfl⟩
abbrev main_call11_v3 : Ref sig .tc := ⟨.hbm, 163, rfl⟩
abbrev main_call11_v4 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_c_25 : Ref sig .tc := ⟨.hbm, 173, rfl⟩
abbrev main_v90 : Ref sig .tc := ⟨.hbm, 174, rfl⟩
abbrev main_v91 : Ref sig .tc := ⟨.hbm, 175, rfl⟩
abbrev main_c_26 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_c_27 : Ref sig .tc := ⟨.hbm, 185, rfl⟩
abbrev main_call12_v0 : Ref sig .tc := ⟨.hbm, 186, rfl⟩
abbrev main_v100 : Ref sig .tc := ⟨.hbm, 187, rfl⟩
abbrev main_v101 : Ref sig .tc := ⟨.hbm, 188, rfl⟩
abbrev main_cst_28 : Ref sig .tc := ⟨.hbm, 189, rfl⟩
abbrev main_v102 : Ref sig .tc := ⟨.hbm, 190, rfl⟩
abbrev main_cst_29 : Ref sig .tc := ⟨.hbm, 191, rfl⟩
abbrev main_v103 : Ref sig .tc := ⟨.hbm, 192, rfl⟩
abbrev main_v104 : Ref sig .tc := ⟨.hbm, 193, rfl⟩
abbrev main_cst_30 : Ref sig .tc := ⟨.hbm, 194, rfl⟩
abbrev main_v105 : Ref sig .tc := ⟨.hbm, 195, rfl⟩
abbrev main_v106 : Ref sig .tc := ⟨.hbm, 196, rfl⟩
abbrev main_cst_31 : Ref sig .tc := ⟨.hbm, 197, rfl⟩
abbrev main_call13_v0 : Ref sig .tc := ⟨.hbm, 198, rfl⟩
abbrev main_call13_v1 : Ref sig .tc := ⟨.hbm, 199, rfl⟩
abbrev main_v107 : Ref sig .tc := ⟨.hbm, 200, rfl⟩
abbrev main_c_32 : Ref sig .tc := ⟨.hbm, 201, rfl⟩
abbrev main_v108 : Ref sig .tc := ⟨.hbm, 202, rfl⟩
abbrev main_v109 : Ref sig .tc := ⟨.hbm, 203, rfl⟩
abbrev main_c_33 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_34 : Ref sig .tc := ⟨.hbm, 212, rfl⟩
abbrev main_cst_35 : Ref sig .tc := ⟨.hbm, 213, rfl⟩
abbrev main_call15_v0 : Ref sig .tc := ⟨.hbm, 214, rfl⟩
abbrev main_call15_v1 : Ref sig .tc := ⟨.hbm, 215, rfl⟩
abbrev main_call15_v2 : Ref sig .tc := ⟨.hbm, 216, rfl⟩
abbrev main_call15_v3 : Ref sig .tc := ⟨.hbm, 217, rfl⟩
abbrev main_call15_v4 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_c_36 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_c_37 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩

abbrev nD : Nat := 1
abbrev τ : Topo := Topo.v7x

variable {F : FTy → Type} [FloatOps F]
-- ==== Proof.Hand.Spec.lean ====
/- What one block of the kernel computes, as plain functions of the block's tokens: the anchor scale, the anchor codes,
   the group scales, the 4-bit codes, their packing and the decoded values, each at a token (or group) number, a sublane
   and a lane, in the order the kernel does the arithmetic; and how the kernel's loads read in these terms. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Codec

open Idealize.ShloMosaic Idealize.ShloMosaic.TcCoe Idealize.ShloMosaic.Tactic
open Cert.KernelIdeal Cert.KernelIdeal.Gen

variable {F : FTy → Type} [FloatOps F]

/-- One block of a tensor's tokens. -/
abbrev Block (F : FTy → Type) := S1x1024x8x128.Idx → F .bf16

/-- The element of a block at four plain numbers, each cut to its axis. -/
def tok4 (x : Block F) (a b c d : ℕ) : F .bf16 :=
  x (ix4 ⟨min a 0, by omega⟩ ⟨min b 1023, by omega⟩ ⟨min c 7, by omega⟩ ⟨min d 127, by omega⟩)

/-- The tokens of a block at sublane `s` and lane `l`. -/
abbrev toks (x : Block F) (s : Fin 8) (l : Fin 128) (n : ℕ) : F .bf16 := tok4 x 0 n s.val l.val

/-- The largest absolute value of the anchors (every tenth token) 0 to `n`. -/
def amaxN (f : ℕ → F .bf16) : ℕ → F .f32
  | 0 => FloatOps.absf (FloatOps.extf .f32 bitsLt_bf16_f32 (f 0))
  | n + 1 => FloatOps.maximumf (amaxN f n) (FloatOps.absf (FloatOps.extf .f32 bitsLt_bf16_f32 (f (10 * n + 10))))

/-- The largest absolute value of all 103 anchors. -/
abbrev amax (f : ℕ → F .bf16) : F .f32 := amaxN f 102

/-- The scale of an anchor maximum `a`: `a / 127`, or 1 where `a` is not positive. -/
def aScale (a : F .f32) : F .f32 :=
  Scalar.select (FloatOps.cmpf .ogt a (FloatOps.ofBits .f32 0#32)) (FloatOps.divf a (FloatOps.ofBits .f32 1123942400#32))
    (FloatOps.ofBits .f32 1065353216#32)

/-- The anchor code, as a float, of a value `t` under the scale `S`: `t / S`, rounded, then clipped to ±127. -/
def aCodeOf (S t : F .f32) : F .f32 :=
  FloatOps.minimumf (FloatOps.ofBits .f32 1123942400#32)
    (FloatOps.maximumf (FloatOps.ofBits .f32 3271426048#32) (FloatOps.roundeven (FloatOps.divf t S)))

/-- The anchor code, as a float, of the token `t` where the anchor maximum is `a`. -/
def aCode (a : F .f32) (t : F .bf16) : F .f32 := aCodeOf (aScale a) (FloatOps.extf .f32 bitsLt_bf16_f32 t)

/-- The decoded anchor. -/
def aBase (a : F .f32) (t : F .bf16) : F .f32 := FloatOps.mulf (aCode a t) (aScale a)

/-- The scale of a group from its largest and smallest token and its decoded anchor. -/
def dScale (top bot b : F .f32) : F .f32 :=
  Scalar.select
    (FloatOps.cmpf .ogt (FloatOps.maximumf (FloatOps.subf top b) (FloatOps.subf b bot)) (FloatOps.ofBits .f32 0#32))
    (FloatOps.divf (FloatOps.maximumf (FloatOps.subf top b) (FloatOps.subf b bot)) (FloatOps.ofBits .f32 1088421888#32))
    (FloatOps.ofBits .f32 1065353216#32)

/-- The largest of the ten tokens from `T` on, even ones and odd ones first. -/
def top10 (f : ℕ → F .bf16) (T : ℕ) : F .f32 :=
  FloatOps.maximumf
    (FloatOps.extf .f32 bitsLt_bf16_f32 (FloatOps.maximumf (FloatOps.maximumf (FloatOps.maximumf (FloatOps.maximumf (f T) (f (T + 2))) (f (T + 4))) (f (T + 6))) (f (T + 8))))
    (FloatOps.extf .f32 bitsLt_bf16_f32 (FloatOps.maximumf (FloatOps.maximumf (FloatOps.maximumf (FloatOps.maximumf (f (T + 1)) (f (T + 3))) (f (T + 5))) (f (T + 7))) (f (T + 9))))

/-- The smallest of the ten tokens from `T` on. -/
def bot10 (f : ℕ → F .bf16) (T : ℕ) : F .f32 :=
  FloatOps.minimumf
    (FloatOps.extf .f32 bitsLt_bf16_f32 (FloatOps.minimumf (FloatOps.minimumf (FloatOps.minimumf (FloatOps.minimumf (f T) (f (T + 2))) (f (T + 4))) (f (T + 6))) (f (T + 8))))
    (FloatOps.extf .f32 bitsLt_bf16_f32 (FloatOps.minimumf (FloatOps.minimumf (FloatOps.minimumf (FloatOps.minimumf (f (T + 1)) (f (T + 3))) (f (T + 5))) (f (T + 7))) (f (T + 9))))

/-- The largest of the four tokens from `T` on (the last group). -/
def top4 (f : ℕ → F .bf16) (T : ℕ) : F .f32 :=
  FloatOps.maximumf (FloatOps.extf .f32 bitsLt_bf16_f32 (FloatOps.maximumf (f T) (f (T + 2))))
    (FloatOps.extf .f32 bitsLt_bf16_f32 (FloatOps.maximumf (f (T + 1)) (f (T + 3))))

/-- The smallest of the four tokens from `T` on (the last group). -/
def bot4 (f : ℕ → F .bf16) (T : ℕ) : F .f32 :=
  FloatOps.minimumf (FloatOps.extf .f32 bitsLt_bf16_f32 (FloatOps.minimumf (f T) (f (T + 2))))
    (FloatOps.extf .f32 bitsLt_bf16_f32 (FloatOps.minimumf (f (T + 1)) (f (T + 3))))

/-- The largest token of group `g`: ten tokens, the last group four. -/
def gTop (f : ℕ → F .bf16) (g : ℕ) : F .f32 := if g < 102 then top10 f (10 * g) else top4 f (10 * g)
/-- The smallest token of group `g`. -/
def gBot (f : ℕ → F .bf16) (g : ℕ) : F .f32 := if g < 102 then bot10 f (10 * g) else bot4 f (10 * g)

/-- The decoded anchor of group `g` of the tokens `f`. -/
def gBase (a : F .f32) (f : ℕ → F .bf16) (g : ℕ) : F .f32 := aBase a (f (10 * g))
/-- The scale of group `g`. -/
def gScale (a : F .f32) (f : ℕ → F .bf16) (g : ℕ) : F .f32 := dScale (gTop f g) (gBot f g) (gBase a f g)

/-- The 4-bit code of a value, as a float: `(t - b) / d` clipped to ±7, then rounded. -/
def dCode (d b t : F .f32) : F .f32 :=
  FloatOps.roundeven (FloatOps.minimumf (FloatOps.ofBits .f32 1088421888#32)
    (FloatOps.maximumf (FloatOps.ofBits .f32 3235905536#32) (FloatOps.divf (FloatOps.subf t b) d)))

/-- The code of token `n` with the scale and the anchor of group `g`. -/
def gCode (a : F .f32) (f : ℕ → F .bf16) (g n : ℕ) : F .f32 :=
  dCode (gScale a f g) (gBase a f g) (FloatOps.extf .f32 bitsLt_bf16_f32 (f n))

/-- The decoded token `n`, which lies in group `n / 10`. -/
def gHat (a : F .f32) (f : ℕ → F .bf16) (n : ℕ) : F .bf16 :=
  FloatOps.truncf .bf16 bitsLt_bf16_f32 (FloatOps.addf (gBase a f (n / 10)) (FloatOps.mulf (gCode a f (n / 10) n) (gScale a f (n / 10))))

/-- A 4-bit code as the kernel makes it a byte: cut to bf16, rounded, converted. -/
def nib (c : F .f32) : BitVec 8 := FloatOps.fptosi 8 (FloatOps.roundeven (FloatOps.truncf .bf16 bitsLt_bf16_f32 c))

/-- The byte that holds the codes of the tokens `2 P` (low half) and `2 P + 1` (high half), which lie in group `P / 5`. -/
def gPack (a : F .f32) (f : ℕ → F .bf16) (P : ℕ) : BitVec 8 :=
  IntOp.ori (IntOp.andi (nib (gCode a f (P / 5) (10 * (P / 5) + 2 * (P % 5)))) 15#8)
    (IntOp.shli .vector (nib (gCode a f (P / 5) (10 * (P / 5) + (2 * (P % 5) + 1)))) 4#8)

end Cert.Codec

end
-- ==== Proof.Hand.Loads.lean ====
/- How the kernel's loads of two neighbouring tokens read, in terms of the block's tokens. -/
module

public import proofs.«01_k».proof.Proof.Hand.Spec

@[expose] public section

set_option maxRecDepth 16384

noncomputable section

namespace Cert.Codec

open Idealize.ShloMosaic Idealize.ShloMosaic.TcCoe Idealize.ShloMosaic.Tactic
open Cert.KernelIdeal Cert.KernelIdeal.Gen

variable {F : FTy → Type} [FloatOps F]

omit [FloatOps F] in
/-- A load of `r` tokens, read at an index. -/
theorem readAt_tok {r : ℕ} (v : View sig .tc .vmem S1x1024x8x128 .bf16) (X : BufTy.Contents (Elt F) v.ty) (off : Fin 4 → ℕ)
    (inb) (z : Fin 1) (a : Fin r) (s : Fin 8) (l : Fin 128) :
    View.readAt (Elt F) v (Rect.unit (s := S1x1024x8x128) off ![1, r, 8, 128] inb).toLoadRect X (ix4 z a s l)
      = tok4 (v.read (Elt F) X) (off 0 + z.val) (off 1 + a.val) (off 2 + s.val) (off 3 + l.val) := by
  have i0 : off 0 + 1 ≤ 1 := inb 0
  have i1 : off 1 + r ≤ 1024 := inb 1
  have i2 : off 2 + 8 ≤ 8 := inb 2
  have i3 : off 3 + 128 ≤ 128 := inb 3
  have := z.isLt
  have := a.isLt
  have := s.isLt
  have := l.isLt
  unfold tok4
  rw [View.readAt_eq_ld]
  refine View.ld_unit_apply_of _ _ _ _ _ _ fun b => ?_
  match b with
  | ⟨0, _⟩ => exact Nat.min_eq_left (by omega)
  | ⟨1, _⟩ => exact Nat.min_eq_left (by omega)
  | ⟨2, _⟩ => exact Nat.min_eq_left (by omega)
  | ⟨3, _⟩ => exact Nat.min_eq_left (by omega)

/-- An offset vector with its token rewritten. -/
theorem off_at {f : Fin 4 → ℕ} {a b : ℕ} (h : f = ![0, a, 0, 0]) (e : a = b) : f = ![0, b, 0, 0] := e ▸ h

/-- Where the token pairs of group 0 of a trip start. -/
theorem off2_lit (k : Fin k0_t2_loop.trips) : k0_off2 k 0#32 = ![0, 10 * (4 * k.val) + 0, 0, 0] ∧ k0_off2 k 2#32 = ![0, 10 * (4 * k.val) + 2, 0, 0] ∧ k0_off2 k 4#32 = ![0, 10 * (4 * k.val) + 4, 0, 0] ∧ k0_off2 k 6#32 = ![0, 10 * (4 * k.val) + 6, 0, 0] ∧ k0_off2 k 8#32 = ![0, 10 * (4 * k.val) + 8, 0, 0] :=
  ⟨off_at (k0_off2_eq k 0) (by show 40 * k.val + 2 * 0 = _; omega), off_at (k0_off2_eq k 1) (by show 40 * k.val + 2 * 1 = _; omega), off_at (k0_off2_eq k 2) (by show 40 * k.val + 2 * 2 = _; omega), off_at (k0_off2_eq k 3) (by show 40 * k.val + 2 * 3 = _; omega), off_at (k0_off2_eq k 4) (by show 40 * k.val + 2 * 4 = _; omega)⟩

/-- Where the token pairs of group 1 of a trip start. -/
theorem off4_lit (k : Fin k0_t2_loop.trips) : k0_off4 k 0#32 = ![0, 10 * (4 * k.val + 1) + 0, 0, 0] ∧ k0_off4 k 2#32 = ![0, 10 * (4 * k.val + 1) + 2, 0, 0] ∧ k0_off4 k 4#32 = ![0, 10 * (4 * k.val + 1) + 4, 0, 0] ∧ k0_off4 k 6#32 = ![0, 10 * (4 * k.val + 1) + 6, 0, 0] ∧ k0_off4 k 8#32 = ![0, 10 * (4 * k.val + 1) + 8, 0, 0] :=
  ⟨off_at (k0_off4_eq k 0) (by show 40 * k.val + 2 * 0 + 10 = _; omega), off_at (k0_off4_eq k 1) (by show 40 * k.val + 2 * 1 + 10 = _; omega), off_at (k0_off4_eq k 2) (by show 40 * k.val + 2 * 2 + 10 = _; omega), off_at (k0_off4_eq k 3) (by show 40 * k.val + 2 * 3 + 10 = _; omega), off_at (k0_off4_eq k 4) (by show 40 * k.val + 2 * 4 + 10 = _; omega)⟩

/-- Where the token pairs of group 2 of a trip start. -/
theorem off6_lit (k : Fin k0_t2_loop.trips) : k0_off6 k 0#32 = ![0, 10 * (4 * k.val + 2) + 0, 0, 0] ∧ k0_off6 k 2#32 = ![0, 10 * (4 * k.val + 2) + 2, 0, 0] ∧ k0_off6 k 4#32 = ![0, 10 * (4 * k.val + 2) + 4, 0, 0] ∧ k0_off6 k 6#32 = ![0, 10 * (4 * k.val + 2) + 6, 0, 0] ∧ k0_off6 k 8#32 = ![0, 10 * (4 * k.val + 2) + 8, 0, 0] :=
  ⟨off_at (k0_off6_eq k 0) (by show 40 * k.val + 2 * 0 + 20 = _; omega), off_at (k0_off6_eq k 1) (by show 40 * k.val + 2 * 1 + 20 = _; omega), off_at (k0_off6_eq k 2) (by show 40 * k.val + 2 * 2 + 20 = _; omega), off_at (k0_off6_eq k 3) (by show 40 * k.val + 2 * 3 + 20 = _; omega), off_at (k0_off6_eq k 4) (by show 40 * k.val + 2 * 4 + 20 = _; omega)⟩

/-- Where the token pairs of group 3 of a trip start. -/
theorem off8_lit (k : Fin k0_t2_loop.trips) : k0_off8 k 0#32 = ![0, 10 * (4 * k.val + 3) + 0, 0, 0] ∧ k0_off8 k 2#32 = ![0, 10 * (4 * k.val + 3) + 2, 0, 0] ∧ k0_off8 k 4#32 = ![0, 10 * (4 * k.val + 3) + 4, 0, 0] ∧ k0_off8 k 6#32 = ![0, 10 * (4 * k.val + 3) + 6, 0, 0] ∧ k0_off8 k 8#32 = ![0, 10 * (4 * k.val + 3) + 8, 0, 0] :=
  ⟨off_at (k0_off8_eq k 0) (by show 40 * k.val + 2 * 0 + 30 = _; omega), off_at (k0_off8_eq k 1) (by show 40 * k.val + 2 * 1 + 30 = _; omega), off_at (k0_off8_eq k 2) (by show 40 * k.val + 2 * 2 + 30 = _; omega), off_at (k0_off8_eq k 3) (by show 40 * k.val + 2 * 3 + 30 = _; omega), off_at (k0_off8_eq k 4) (by show 40 * k.val + 2 * 4 + 30 = _; omega)⟩

/-- Where the packed rows of a trip start. -/
theorem off10_lit (k : Fin k0_t2_loop.trips) : k0_off10 k 0#32 = ![0, 5 * (4 * k.val) + 0, 0, 0] ∧ k0_off10 k 4#32 = ![0, 5 * (4 * k.val) + 4, 0, 0] ∧ k0_off10 k 8#32 = ![0, 5 * (4 * k.val) + 8, 0, 0] ∧ k0_off10 k 12#32 = ![0, 5 * (4 * k.val) + 12, 0, 0] ∧ k0_off10 k 16#32 = ![0, 5 * (4 * k.val) + 16, 0, 0] :=
  ⟨off_at (k0_off10_eq k 0) (by show 20 * k.val + 4 * 0 = _; omega), off_at (k0_off10_eq k 1) (by show 20 * k.val + 4 * 1 = _; omega), off_at (k0_off10_eq k 2) (by show 20 * k.val + 4 * 2 = _; omega), off_at (k0_off10_eq k 3) (by show 20 * k.val + 4 * 3 = _; omega), off_at (k0_off10_eq k 4) (by show 20 * k.val + 4 * 4 = _; omega)⟩

/-- Where the token pairs of group 0 of a trip start. -/
theorem off12_lit (k : Fin k0_t4_loop.trips) : k0_off12 k 0#32 = ![0, 10 * (4 * k.val) + 0, 0, 0] ∧ k0_off12 k 2#32 = ![0, 10 * (4 * k.val) + 2, 0, 0] ∧ k0_off12 k 4#32 = ![0, 10 * (4 * k.val) + 4, 0, 0] ∧ k0_off12 k 6#32 = ![0, 10 * (4 * k.val) + 6, 0, 0] ∧ k0_off12 k 8#32 = ![0, 10 * (4 * k.val) + 8, 0, 0] :=
  ⟨off_at (k0_off12_eq k 0) (by show 40 * k.val + 2 * 0 = _; omega), off_at (k0_off12_eq k 1) (by show 40 * k.val + 2 * 1 = _; omega), off_at (k0_off12_eq k 2) (by show 40 * k.val + 2 * 2 = _; omega), off_at (k0_off12_eq k 3) (by show 40 * k.val + 2 * 3 = _; omega), off_at (k0_off12_eq k 4) (by show 40 * k.val + 2 * 4 = _; omega)⟩

/-- Where the token pairs of group 1 of a trip start. -/
theorem off14_lit (k : Fin k0_t4_loop.trips) : k0_off14 k 0#32 = ![0, 10 * (4 * k.val + 1) + 0, 0, 0] ∧ k0_off14 k 2#32 = ![0, 10 * (4 * k.val + 1) + 2, 0, 0] ∧ k0_off14 k 4#32 = ![0, 10 * (4 * k.val + 1) + 4, 0, 0] ∧ k0_off14 k 6#32 = ![0, 10 * (4 * k.val + 1) + 6, 0, 0] ∧ k0_off14 k 8#32 = ![0, 10 * (4 * k.val + 1) + 8, 0, 0] :=
  ⟨off_at (k0_off14_eq k 0) (by show 40 * k.val + 2 * 0 + 10 = _; omega), off_at (k0_off14_eq k 1) (by show 40 * k.val + 2 * 1 + 10 = _; omega), off_at (k0_off14_eq k 2) (by show 40 * k.val + 2 * 2 + 10 = _; omega), off_at (k0_off14_eq k 3) (by show 40 * k.val + 2 * 3 + 10 = _; omega), off_at (k0_off14_eq k 4) (by show 40 * k.val + 2 * 4 + 10 = _; omega)⟩

/-- Where the token pairs of group 2 of a trip start. -/
theorem off16_lit (k : Fin k0_t4_loop.trips) : k0_off16 k 0#32 = ![0, 10 * (4 * k.val + 2) + 0, 0, 0] ∧ k0_off16 k 2#32 = ![0, 10 * (4 * k.val + 2) + 2, 0, 0] ∧ k0_off16 k 4#32 = ![0, 10 * (4 * k.val + 2) + 4, 0, 0] ∧ k0_off16 k 6#32 = ![0, 10 * (4 * k.val + 2) + 6, 0, 0] ∧ k0_off16 k 8#32 = ![0, 10 * (4 * k.val + 2) + 8, 0, 0] :=
  ⟨off_at (k0_off16_eq k 0) (by show 40 * k.val + 2 * 0 + 20 = _; omega), off_at (k0_off16_eq k 1) (by show 40 * k.val + 2 * 1 + 20 = _; omega), off_at (k0_off16_eq k 2) (by show 40 * k.val + 2 * 2 + 20 = _; omega), off_at (k0_off16_eq k 3) (by show 40 * k.val + 2 * 3 + 20 = _; omega), off_at (k0_off16_eq k 4) (by show 40 * k.val + 2 * 4 + 20 = _; omega)⟩

/-- Where the token pairs of group 3 of a trip start. -/
theorem off18_lit (k : Fin k0_t4_loop.trips) : k0_off18 k 0#32 = ![0, 10 * (4 * k.val + 3) + 0, 0, 0] ∧ k0_off18 k 2#32 = ![0, 10 * (4 * k.val + 3) + 2, 0, 0] ∧ k0_off18 k 4#32 = ![0, 10 * (4 * k.val + 3) + 4, 0, 0] ∧ k0_off18 k 6#32 = ![0, 10 * (4 * k.val + 3) + 6, 0, 0] ∧ k0_off18 k 8#32 = ![0, 10 * (4 * k.val + 3) + 8, 0, 0] :=
  ⟨off_at (k0_off18_eq k 0) (by show 40 * k.val + 2 * 0 + 30 = _; omega), off_at (k0_off18_eq k 1) (by show 40 * k.val + 2 * 1 + 30 = _; omega), off_at (k0_off18_eq k 2) (by show 40 * k.val + 2 * 2 + 30 = _; omega), off_at (k0_off18_eq k 3) (by show 40 * k.val + 2 * 3 + 30 = _; omega), off_at (k0_off18_eq k 4) (by show 40 * k.val + 2 * 4 + 30 = _; omega)⟩

/-- Where the packed rows of a trip start. -/
theorem off20_lit (k : Fin k0_t4_loop.trips) : k0_off20 k 0#32 = ![0, 5 * (4 * k.val) + 0, 0, 0] ∧ k0_off20 k 4#32 = ![0, 5 * (4 * k.val) + 4, 0, 0] ∧ k0_off20 k 8#32 = ![0, 5 * (4 * k.val) + 8, 0, 0] ∧ k0_off20 k 12#32 = ![0, 5 * (4 * k.val) + 12, 0, 0] ∧ k0_off20 k 16#32 = ![0, 5 * (4 * k.val) + 16, 0, 0] :=
  ⟨off_at (k0_off20_eq k 0) (by show 20 * k.val + 4 * 0 = _; omega), off_at (k0_off20_eq k 1) (by show 20 * k.val + 4 * 1 = _; omega), off_at (k0_off20_eq k 2) (by show 20 * k.val + 4 * 2 = _; omega), off_at (k0_off20_eq k 3) (by show 20 * k.val + 4 * 3 = _; omega), off_at (k0_off20_eq k 4) (by show 20 * k.val + 4 * 4 = _; omega)⟩

/-! ### The kernel's vector expressions folded to the scalar functions, element by element -/

/-- The anchor scales of a vector of anchor maxima. -/
def aScaleV (a : FVec F S8x128 .f32) : FVec F S8x128 .f32 := fun i => aScale (a i)
/-- The anchor codes (as floats) of a vector of anchors under the scales `S`. -/
def aCodeV (S t : FVec F S8x128 .f32) : FVec F S8x128 .f32 := fun i => aCodeOf (S i) (t i)
/-- The group scales of vectors of largest and smallest tokens and of decoded anchors. -/
def dScaleV (t m b : FVec F S8x128 .f32) : FVec F S8x128 .f32 := fun i => dScale (t i) (m i) (b i)
/-- The 4-bit codes (as floats) of a vector of tokens. -/
def dCodeV (d b t : FVec F S8x128 .f32) : FVec F S8x128 .f32 := fun i => dCode (d i) (b i) (t i)

/-- The kernel's anchor scale. -/
theorem aScaleV_fold (a : FVec F S8x128 .f32) :
    select (cmpf .ogt a (broadcast S8x128 (Scalar.ofBits .f32 0x00000000#32))) (divf a (broadcast S8x128 (Scalar.ofBits .f32 0x42FE0000#32)))
      (broadcast S8x128 (Scalar.ofBits .f32 0x3F800000#32)) = aScaleV a := rfl
/-- The kernel's anchor code. -/
theorem aCodeV_fold (S t : FVec F S8x128 .f32) :
    minimumf (broadcast S8x128 (Scalar.ofBits .f32 0x42FE0000#32))
      (maximumf (broadcast S8x128 (Scalar.ofBits .f32 0xC2FE0000#32)) (roundeven (divf t S))) = aCodeV S t := rfl
/-- The kernel's group scale. -/
theorem dScaleV_fold (t m b : FVec F S8x128 .f32) :
    select (cmpf .ogt (maximumf (subf t b) (subf b m)) (broadcast S8x128 (Scalar.ofBits .f32 0x00000000#32)))
      (divf (maximumf (subf t b) (subf b m)) (broadcast S8x128 (Scalar.ofBits .f32 0x40E00000#32)))
      (broadcast S8x128 (Scalar.ofBits .f32 0x3F800000#32)) = dScaleV t m b := rfl
/-- The kernel's 4-bit code. -/
theorem dCodeV_fold (d b t : FVec F S8x128 .f32) :
    roundeven (minimumf (broadcast S8x128 (Scalar.ofBits .f32 0x40E00000#32))
      (maximumf (broadcast S8x128 (Scalar.ofBits .f32 0xC0E00000#32)) (divf (subf t b) d))) = dCodeV d b t := rfl

/-- The byte of two codes. -/
def pack2 (lo hi : F .f32) : BitVec 8 := IntOp.ori (IntOp.andi (nib lo) 15#8) (IntOp.shli .vector (nib hi) 4#8)

/-- The kernel's packing of four rows of codes, read at an index. -/
theorem packV_read (a0 a1 a2 a3 b0 b1 b2 b3 : FVec F S8x128 .f32) (hc hc' ht ht' h1 h2) (z : Fin 1) (x : Fin 4) (s : Fin 8) (l : Fin 128) :
    shapeCast S1x4x8x128 (shapeCast S4x8x128
      (ori (andi (fptosi 8 (roundeven (truncf .bf16 (concatenate S32x128 0 [⟨S8x128, a0⟩, ⟨S8x128, a1⟩, ⟨S8x128, a2⟩, ⟨S8x128, a3⟩] hc) ht)))
          (broadcast S32x128 15#8))
        (shli (fptosi 8 (roundeven (truncf .bf16 (concatenate S32x128 0 [⟨S8x128, b0⟩, ⟨S8x128, b1⟩, ⟨S8x128, b2⟩, ⟨S8x128, b3⟩] hc') ht')))
          (broadcast S32x128 4#8))) h1) h2 (ix4 z x s l)
      = pack2 (![a0, a1, a2, a3] x (ix2 s l)) (![b0, b1, b2, b3] x (ix2 s l)) := by
  have n1 : ¬ 8 + s.val < 8 := by omega
  have n2 : ¬ 16 + s.val < 8 := by omega
  have n3 : ¬ 16 + s.val - 8 < 8 := by omega
  have n4 : ¬ 24 + s.val < 8 := by omega
  have n5 : ¬ 24 + s.val - 8 < 8 := by omega
  have n6 : ¬ 24 + s.val - 8 - 8 < 8 := by omega
  have e1 : 8 + s.val - 8 = s.val := by omega
  have e2 : 16 + s.val - 8 - 8 = s.val := by omega
  have e3 : 24 + s.val - 8 - 8 - 8 = s.val := by omega
  have l2 : 16 + s.val - 8 - 8 < 8 := by omega
  have l3 : 24 + s.val - 8 - 8 - 8 < 8 := by omega
  fin_cases x
  all_goals
    pointwise
    try simp only [n1, n2, n3, n4, n5, n6, e1, e2, e3, l2, l3, s.isLt, dif_neg, dif_pos, not_false_eq_true, Fin.eta]
    rfl

/-- The kernel's rounding of two rows of decoded tokens, read at an index. -/
theorem hatV_read (u0 u1 : FVec F S8x128 .f32) (hc ht h1 h2) (z : Fin 1) (x : Fin 2) (s : Fin 8) (l : Fin 128) :
    shapeCast S1x2x8x128 (shapeCast S2x8x128 (truncf .bf16 (concatenate S16x128 0 [⟨S8x128, u0⟩, ⟨S8x128, u1⟩] hc) ht) h1) h2 (ix4 z x s l)
      = FloatOps.truncf .bf16 bitsLt_bf16_f32 (![u0, u1] x (ix2 s l)) := by
  fin_cases x <;> pointwise <;> rfl

/-- Stores in front of stores: what all pieces of both lists have at an index, all pieces of the joined list have. -/
theorem allAt_append {S : Shape} {e : EltTy} {L M : List (View.Piece (Elt F) S e)} {y : S.Idx} {v : Elt F e} (hL : View.AllAt L y v)
    (hM : View.AllAt M y v) : View.AllAt (L ++ M) y v :=
  fun p hp => (List.mem_append.mp hp).elim (hL p) (hM p)

end Cert.Codec

end
-- ==== Proof.Hand.TripK.lean ====
/- What one trip of the kernel's group loop over the first tensor stores, in terms of the block's tokens: each of its stores
   has, at every element it covers, the value of the specification. -/
module

public import proofs.«01_k».proof.Proof.Hand.Loads

@[expose] public section

set_option maxRecDepth 16384
set_option maxHeartbeats 4000000

noncomputable section

namespace Cert.Codec

open Idealize.ShloMosaic Idealize.ShloMosaic.TcCoe Idealize.ShloMosaic.Tactic
open Cert.KernelIdeal Cert.KernelIdeal.Gen

variable {F : FTy → Type} [FloatOps F]

variable (𝒱 : Variants) (c : Dev nD) (bd : Option 𝒱.V) (i : grid0.Coords) (arg2 : Memref sig .tc .vmem S1x1024x8x128 .bf16) (harg2 : arg2.IsWhole) (arg3 : Memref sig .tc .vmem S1x1024x8x128 .bf16) (harg3 : arg3.IsWhole) (arg4 : Memref sig .tc .vmem S1x1024x8x128 .bf16) (harg4 : arg4.IsWhole) (arg5 : Memref sig .tc .vmem S1x1024x8x128 .bf16) (harg5 : arg5.IsWhole) (arg6 : Memref sig .tc .vmem S1x103x8x128 .i8) (harg6 : arg6.IsWhole) (arg7 : Memref sig .tc .vmem S1x8x128 .f32) (harg7 : arg7.IsWhole) (arg8 : Memref sig .tc .vmem S1x512x8x128 .i8) (harg8 : arg8.IsWhole) (arg9 : Memref sig .tc .vmem S1x103x8x128 .f32) (harg9 : arg9.IsWhole) (arg10 : Memref sig .tc .vmem S1x103x8x128 .i8) (harg10 : arg10.IsWhole) (arg11 : Memref sig .tc .vmem S1x8x128 .f32) (harg11 : arg11.IsWhole) (arg12 : Memref sig .tc .vmem S1x512x8x128 .i8) (harg12 : arg12.IsWhole) (arg13 : Memref sig .tc .vmem S1x103x8x128 .f32) (harg13 : arg13.IsWhole)

/-- The stored group scales. -/
theorem trip_ds_k (a : FVec F S8x128 .f32) (X : BufTy.Contents (Elt F) arg2.view.ty) (k : Fin k0_t2_loop.trips) (y1 : Fin 103) (s : Fin 8) (l : Fin 128) :
    View.AllAt (tripL_k0_t2 (F := F) 𝒱 c bd i arg2 harg2 arg3 harg3 arg4 harg4 arg5 harg5 arg6 harg6 arg7 harg7 arg8 harg8 arg9 harg9 arg10 harg10 arg11 harg11 arg12 harg12 arg13 harg13 a X k).2.2.2 (ix4 0 y1 s l)
      (gScale (a (ix2 s l)) (toks (arg2.view.read (Elt F) X) s l) y1.val) := by
  have hk : k.val < 25 := k.isLt
  unfold tripL_k0_t2 trip_k0_t2
  dsimp only
  repeat' (first | exact View.allAt_nil _ _ | refine View.allAt_cons_unit _ _ _ _ _ ?_ ?_)
  all_goals
    tile_intro x h
    idx_vars x
    simp only [k0_off3_eq, k0_off5_eq, k0_off7_eq, k0_off9_eq] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    pointwise
    simp only [aScaleV, aCodeV, dScaleV, dCodeV]
    pointwise
    try simp only [aScaleV, aCodeV]
    try pointwise
    simp only [q0, q1, q2, q3, Fin.eta, readAt_tok, off2_lit, off4_lit, off6_lit, off8_lit, Matrix.cons_val, Nat.zero_add, Nat.add_zero, Nat.add_assoc, Nat.reduceAdd, Fin.val_zero]
    simp only [h1, Nat.add_assoc, Nat.reduceAdd, Nat.reduceMul, Nat.reduceMod, Nat.add_zero, Nat.mul_add_div (show 5 > 0 by decide),
      Nat.mul_div_cancel_left _ (show 0 < 5 by decide), Nat.mul_add_mod, Nat.mul_mod_right, Nat.mul_add_div (show 10 > 0 by decide),
      Nat.mul_div_cancel_left _ (show 0 < 10 by decide), Nat.reduceDiv, gPack, gHat, gCode, gScale, gTop, gBot, gBase, f0, f1, f2, f3, if_true]
    rfl

/-- The stored anchor codes. -/
theorem trip_ac_k (a : FVec F S8x128 .f32) (X : BufTy.Contents (Elt F) arg2.view.ty) (k : Fin k0_t2_loop.trips) (y1 : Fin 103) (s : Fin 8) (l : Fin 128) :
    View.AllAt (tripL_k0_t2 (F := F) 𝒱 c bd i arg2 harg2 arg3 harg3 arg4 harg4 arg5 harg5 arg6 harg6 arg7 harg7 arg8 harg8 arg9 harg9 arg10 harg10 arg11 harg11 arg12 harg12 arg13 harg13 a X k).2.1 (ix4 0 y1 s l)
      (FloatOps.fptosi 8 (aCode (a (ix2 s l)) ((toks (arg2.view.read (Elt F) X) s l) (10 * y1.val)))) := by
  have hk : k.val < 25 := k.isLt
  unfold tripL_k0_t2 trip_k0_t2
  dsimp only
  repeat' (first | exact View.allAt_nil _ _ | refine View.allAt_cons_unit _ _ _ _ _ ?_ ?_)
  all_goals
    tile_intro x h
    idx_vars x
    simp only [k0_off3_eq, k0_off5_eq, k0_off7_eq, k0_off9_eq] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    pointwise
    simp only [aScaleV, aCodeV, dScaleV, dCodeV]
    pointwise
    try simp only [aScaleV, aCodeV]
    try pointwise
    simp only [q0, q1, q2, q3, Fin.eta, readAt_tok, off2_lit, off4_lit, off6_lit, off8_lit, Matrix.cons_val, Nat.zero_add, Nat.add_zero, Nat.add_assoc, Nat.reduceAdd, Fin.val_zero]
    simp only [h1, Nat.add_assoc, Nat.reduceAdd, Nat.reduceMul, Nat.reduceMod, Nat.add_zero, Nat.mul_add_div (show 5 > 0 by decide),
      Nat.mul_div_cancel_left _ (show 0 < 5 by decide), Nat.mul_add_mod, Nat.mul_mod_right, Nat.mul_add_div (show 10 > 0 by decide),
      Nat.mul_div_cancel_left _ (show 0 < 10 by decide), Nat.reduceDiv, gPack, gHat, gCode, gScale, gTop, gBot, gBase, f0, f1, f2, f3, if_true]
    rfl

/-- The stored decoded tokens. -/
theorem trip_xh_k (a : FVec F S8x128 .f32) (X : BufTy.Contents (Elt F) arg2.view.ty) (k : Fin k0_t2_loop.trips) (y1 : Fin 1024) (s : Fin 8) (l : Fin 128) :
    View.AllAt (tripL_k0_t2 (F := F) 𝒱 c bd i arg2 harg2 arg3 harg3 arg4 harg4 arg5 harg5 arg6 harg6 arg7 harg7 arg8 harg8 arg9 harg9 arg10 harg10 arg11 harg11 arg12 harg12 arg13 harg13 a X k).1 (ix4 0 y1 s l)
      (gHat (a (ix2 s l)) (toks (arg2.view.read (Elt F) X) s l) y1.val) := by
  have hk : k.val < 25 := k.isLt
  unfold tripL_k0_t2 trip_k0_t2
  dsimp only
  repeat' (first | exact View.allAt_nil _ _ | refine View.allAt_cons_unit _ _ _ _ _ ?_ ?_)
  all_goals
    tile_intro x h
    idx_vars x
    simp only [off2_lit, off4_lit, off6_lit, off8_lit] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    rw [hatV_read]
    fin_cases x1
    all_goals
      simp only [Matrix.cons_val, Fin.isValue, Fin.mk_zero, Fin.mk_one, Fin.reduceFinMk]
      pointwise
      simp only [aScaleV, aCodeV, dScaleV, dCodeV]
      pointwise
      try simp only [aScaleV, aCodeV]
      try pointwise
      simp only [q0, q1, q2, q3, Fin.eta, readAt_tok, off2_lit, off4_lit, off6_lit, off8_lit, Matrix.cons_val, Nat.zero_add, Nat.add_zero, Nat.add_assoc, Nat.reduceAdd, Fin.val_zero]
      simp only [h1, Nat.add_assoc, Nat.reduceAdd, Nat.reduceMul, Nat.reduceMod, Nat.add_zero, Nat.mul_add_div (show 5 > 0 by decide),
        Nat.mul_div_cancel_left _ (show 0 < 5 by decide), Nat.mul_add_mod, Nat.mul_mod_right, Nat.mul_add_div (show 10 > 0 by decide),
        Nat.mul_div_cancel_left _ (show 0 < 10 by decide), Nat.reduceDiv, gPack, gHat, gCode, gScale, gTop, gBot, gBase, f0, f1, f2, f3, if_true]
      rfl

/-- The stored packed codes. -/
theorem trip_dc_k (a : FVec F S8x128 .f32) (X : BufTy.Contents (Elt F) arg2.view.ty) (k : Fin k0_t2_loop.trips) (y1 : Fin 512) (s : Fin 8) (l : Fin 128) :
    View.AllAt (tripL_k0_t2 (F := F) 𝒱 c bd i arg2 harg2 arg3 harg3 arg4 harg4 arg5 harg5 arg6 harg6 arg7 harg7 arg8 harg8 arg9 harg9 arg10 harg10 arg11 harg11 arg12 harg12 arg13 harg13 a X k).2.2.1 (ix4 0 y1 s l)
      (gPack (a (ix2 s l)) (toks (arg2.view.read (Elt F) X) s l) y1.val) := by
  have hk : k.val < 25 := k.isLt
  unfold tripL_k0_t2 trip_k0_t2
  dsimp only
  repeat' (first | exact View.allAt_nil _ _ | refine View.allAt_cons_unit _ _ _ _ _ ?_ ?_)
  all_goals
    tile_intro x h
    idx_vars x
    simp only [off10_lit] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    rw [packV_read]
    fin_cases x1
    all_goals
      simp only [Matrix.cons_val, Fin.isValue, Fin.mk_zero, Fin.mk_one, Fin.reduceFinMk]
      pointwise
      simp only [aScaleV, aCodeV, dScaleV, dCodeV]
      pointwise
      try simp only [aScaleV, aCodeV]
      try pointwise
      simp only [q0, q1, q2, q3, Fin.eta, readAt_tok, off2_lit, off4_lit, off6_lit, off8_lit, Matrix.cons_val, Nat.zero_add, Nat.add_zero, Nat.add_assoc, Nat.reduceAdd, Fin.val_zero]
      simp only [h1, Nat.add_assoc, Nat.reduceAdd, Nat.reduceMul, Nat.reduceMod, Nat.add_zero, Nat.mul_add_div (show 5 > 0 by decide),
        Nat.mul_div_cancel_left _ (show 0 < 5 by decide), Nat.mul_add_mod, Nat.mul_mod_right, Nat.mul_add_div (show 10 > 0 by decide),
        Nat.mul_div_cancel_left _ (show 0 < 10 by decide), Nat.reduceDiv, gPack, gHat, gCode, gScale, gTop, gBot, gBase, f0, f1, f2, f3, if_true]
      rfl

end Cert.Codec

end
-- ==== Proof.Hand.BodyK.lean ====
/- What one run of the kernel's body leaves in the outputs of the first tensor, element by element, in terms of the
   block's tokens: the anchor maximum's loop, the group loop and the last three groups. -/
module

public import proofs.«01_k».proof.Proof.Hand.TripK

@[expose] public section

set_option maxRecDepth 16384
set_option maxHeartbeats 4000000

noncomputable section

namespace Cert.Codec

open Idealize.ShloMosaic Idealize.ShloMosaic.TcCoe Idealize.ShloMosaic.Tactic
open Cert.KernelIdeal Cert.KernelIdeal.Gen

variable {F : FTy → Type} [FloatOps F]

variable (𝒱 : Variants) (c : Dev nD) (bd : Option 𝒱.V) (i : grid0.Coords) (arg2 : Memref sig .tc .vmem S1x1024x8x128 .bf16) (harg2 : arg2.IsWhole) (arg3 : Memref sig .tc .vmem S1x1024x8x128 .bf16) (harg3 : arg3.IsWhole) (arg4 : Memref sig .tc .vmem S1x1024x8x128 .bf16) (harg4 : arg4.IsWhole) (arg5 : Memref sig .tc .vmem S1x1024x8x128 .bf16) (harg5 : arg5.IsWhole) (arg6 : Memref sig .tc .vmem S1x103x8x128 .i8) (harg6 : arg6.IsWhole) (arg7 : Memref sig .tc .vmem S1x8x128 .f32) (harg7 : arg7.IsWhole) (arg8 : Memref sig .tc .vmem S1x512x8x128 .i8) (harg8 : arg8.IsWhole) (arg9 : Memref sig .tc .vmem S1x103x8x128 .f32) (harg9 : arg9.IsWhole) (arg10 : Memref sig .tc .vmem S1x103x8x128 .i8) (harg10 : arg10.IsWhole) (arg11 : Memref sig .tc .vmem S1x8x128 .f32) (harg11 : arg11.IsWhole) (arg12 : Memref sig .tc .vmem S1x512x8x128 .i8) (harg12 : arg12.IsWhole) (arg13 : Memref sig .tc .vmem S1x103x8x128 .f32) (harg13 : arg13.IsWhole)

/-- Where trip `k` of the anchor loop reads. -/
theorem off1_at (k : Fin k0_t1_loop.trips) : k0_off1 k = ![0, 10 * k.val + 10, 0, 0] := off_at (k0_off1_eq k) (by omega)

/-- The anchor loop's carried value is the largest absolute value of the anchors read so far. -/
theorem st_read_k (init : FVec F S8x128 .f32) (X : BufTy.Contents (Elt F) arg2.view.ty) (s : Fin 8) (l : Fin 128)
    (h0 : init (ix2 s l) = amaxN (toks (arg2.view.read (Elt F) X) s l) 0) :
    ∀ n, n ≤ 102 → st_k0_t1 (F := F) 𝒱 c bd i arg2 harg2 arg3 harg3 arg4 harg4 arg5 harg5 arg6 harg6 arg7 harg7 arg8 harg8 arg9 harg9 arg10 harg10 arg11 harg11 arg12 harg12 arg13 harg13 X init n (ix2 s l) = amaxN (toks (arg2.view.read (Elt F) X) s l) n
  | 0, _ => h0
  | n + 1, hn => by
    have ih := st_read_k init X s l h0 n (by omega)
    rw [st_k0_t1_succ (F := F) 𝒱 c bd i arg2 harg2 arg3 harg3 arg4 harg4 arg5 harg5 arg6 harg6 arg7 harg7 arg8 harg8 arg9 harg9 arg10 harg10 arg11 harg11 arg12 harg12 arg13 harg13 X init ⟨n, hn⟩]
    unfold tripR_k0_t1 trip_k0_t1
    dsimp only
    sl_unfold_run_names
    open_payloads_core
    pointwise
    simp only [readAt_tok, off1_at, Matrix.cons_val, Nat.zero_add, Nat.add_zero, Fin.val_zero]
    rw [ih]
    rfl

/-- The decoded tokens all the trips before `n` store. -/
theorem pb_xh_k (a : FVec F S8x128 .f32) (X : BufTy.Contents (Elt F) arg2.view.ty) (y1 : Fin 1024) (s : Fin 8) (l : Fin 128) :
    ∀ n, n ≤ 25 → View.AllAt (pb_k0_t2 (F := F) 𝒱 c bd i arg2 harg2 arg3 harg3 arg4 harg4 arg5 harg5 arg6 harg6 arg7 harg7 arg8 harg8 arg9 harg9 arg10 harg10 arg11 harg11 arg12 harg12 arg13 harg13 a X n).1 (ix4 0 y1 s l) (gHat (a (ix2 s l)) (toks (arg2.view.read (Elt F) X) s l) y1.val)
  | 0, _ => View.allAt_nil _ _
  | n + 1, hn => by
    rw [pb_k0_t2_succ (F := F) 𝒱 c bd i arg2 harg2 arg3 harg3 arg4 harg4 arg5 harg5 arg6 harg6 arg7 harg7 arg8 harg8 arg9 harg9 arg10 harg10 arg11 harg11 arg12 harg12 arg13 harg13 a X ⟨n, hn⟩]
    exact allAt_append (trip_xh_k 𝒱 c bd i arg2 harg2 arg3 harg3 arg4 harg4 arg5 harg5 arg6 harg6 arg7 harg7 arg8 harg8 arg9 harg9 arg10 harg10 arg11 harg11 arg12 harg12 arg13 harg13 a X ⟨n, hn⟩ y1 s l) (pb_xh_k a X y1 s l n (by omega))

/-- The anchor codes all the trips before `n` store. -/
theorem pb_ac_k (a : FVec F S8x128 .f32) (X : BufTy.Contents (Elt F) arg2.view.ty) (y1 : Fin 103) (s : Fin 8) (l : Fin 128) :
    ∀ n, n ≤ 25 → View.AllAt (pb_k0_t2 (F := F) 𝒱 c bd i arg2 harg2 arg3 harg3 arg4 harg4 arg5 harg5 arg6 harg6 arg7 harg7 arg8 harg8 arg9 harg9 arg10 harg10 arg11 harg11 arg12 harg12 arg13 harg13 a X n).2.1 (ix4 0 y1 s l) (FloatOps.fptosi 8 (aCode (a (ix2 s l)) ((toks (arg2.view.read (Elt F) X) s l) (10 * y1.val))))
  | 0, _ => View.allAt_nil _ _
  | n + 1, hn => by
    rw [pb_k0_t2_succ (F := F) 𝒱 c bd i arg2 harg2 arg3 harg3 arg4 harg4 arg5 harg5 arg6 harg6 arg7 harg7 arg8 harg8 arg9 harg9 arg10 harg10 arg11 harg11 arg12 harg12 arg13 harg13 a X ⟨n, hn⟩]
    exact allAt_append (trip_ac_k 𝒱 c bd i arg2 harg2 arg3 harg3 arg4 harg4 arg5 harg5 arg6 harg6 arg7 harg7 arg8 harg8 arg9 harg9 arg10 harg10 arg11 harg11 arg12 harg12 arg13 harg13 a X ⟨n, hn⟩ y1 s l) (pb_ac_k a X y1 s l n (by omega))

/-- The packed codes all the trips before `n` store. -/
theorem pb_dc_k (a : FVec F S8x128 .f32) (X : BufTy.Contents (Elt F) arg2.view.ty) (y1 : Fin 512) (s : Fin 8) (l : Fin 128) :
    ∀ n, n ≤ 25 → View.AllAt (pb_k0_t2 (F := F) 𝒱 c bd i arg2 harg2 arg3 harg3 arg4 harg4 arg5 harg5 arg6 harg6 arg7 harg7 arg8 harg8 arg9 harg9 arg10 harg10 arg11 harg11 arg12 harg12 arg13 harg13 a X n).2.2.1 (ix4 0 y1 s l) (gPack (a (ix2 s l)) (toks (arg2.view.read (Elt F) X) s l) y1.val)
  | 0, _ => View.allAt_nil _ _
  | n + 1, hn => by
    rw [pb_k0_t2_succ (F := F) 𝒱 c bd i arg2 harg2 arg3 harg3 arg4 harg4 arg5 harg5 arg6 harg6 arg7 harg7 arg8 harg8 arg9 harg9 arg10 harg10 arg11 harg11 arg12 harg12 arg13 harg13 a X ⟨n, hn⟩]
    exact allAt_append (trip_dc_k 𝒱 c bd i arg2 harg2 arg3 harg3 arg4 harg4 arg5 harg5 arg6 harg6 arg7 harg7 arg8 harg8 arg9 harg9 arg10 harg10 arg11 harg11 arg12 harg12 arg13 harg13 a X ⟨n, hn⟩ y1 s l) (pb_dc_k a X y1 s l n (by omega))

/-- The group scales all the trips before `n` store. -/
theorem pb_ds_k (a : FVec F S8x128 .f32) (X : BufTy.Contents (Elt F) arg2.view.ty) (y1 : Fin 103) (s : Fin 8) (l : Fin 128) :
    ∀ n, n ≤ 25 → View.AllAt (pb_k0_t2 (F := F) 𝒱 c bd i arg2 harg2 arg3 harg3 arg4 harg4 arg5 harg5 arg6 harg6 arg7 harg7 arg8 harg8 arg9 harg9 arg10 harg10 arg11 harg11 arg12 harg12 arg13 harg13 a X n).2.2.2 (ix4 0 y1 s l) (gScale (a (ix2 s l)) (toks (arg2.view.read (Elt F) X) s l) y1.val)
  | 0, _ => View.allAt_nil _ _
  | n + 1, hn => by
    rw [pb_k0_t2_succ (F := F) 𝒱 c bd i arg2 harg2 arg3 harg3 arg4 harg4 arg5 harg5 arg6 harg6 arg7 harg7 arg8 harg8 arg9 harg9 arg10 harg10 arg11 harg11 arg12 harg12 arg13 harg13 a X ⟨n, hn⟩]
    exact allAt_append (trip_ds_k 𝒱 c bd i arg2 harg2 arg3 harg3 arg4 harg4 arg5 harg5 arg6 harg6 arg7 harg7 arg8 harg8 arg9 harg9 arg10 harg10 arg11 harg11 arg12 harg12 arg13 harg13 a X ⟨n, hn⟩ y1 s l) (pb_ds_k a X y1 s l n (by omega))

/-- After all trips the anchor loop has the anchor maximum. -/
theorem st_fin_k (x : Vec F S1x1024x8x128 .bf16) (s : Fin 8) (l : Fin 128) :
    st_k0_t1 (F := F) Variants.none c none i arg2 harg2 arg3 harg3 arg4 harg4 arg5 harg5 arg6 harg6 arg7 harg7 arg8 harg8 arg9 harg9 arg10 harg10 arg11 harg11 arg12 harg12 arg13 harg13 (harg2.unread x)
      (absf (extf .f32 (shapeCast S8x128 (View.readAt (Elt F) arg2.view
        (Rect.unit (s := S1x1024x8x128) ![0, 0, 0, 0] ![1, 1, 8, 128] inb_S1x1024x8x128_S1x1x8x128_0_0_0_0).toLoadRect (harg2.unread x))
          shapeCasts_S1x1x8x128_S8x128) bitsLt_bf16_f32))
      (Scf.trips (1#32) (Scalar.addi 1#32 102#32) 1#32) (ix2 s l) = amax (toks x s l) := by
  have h0 := st_read_k Variants.none c none i arg2 harg2 arg3 harg3 arg4 harg4 arg5 harg5 arg6 harg6 arg7 harg7 arg8 harg8 arg9 harg9 arg10 harg10 arg11 harg11 arg12 harg12 arg13 harg13 (absf (extf .f32 (shapeCast S8x128 (View.readAt (Elt F) arg2.view
        (Rect.unit (s := S1x1024x8x128) ![0, 0, 0, 0] ![1, 1, 8, 128] inb_S1x1024x8x128_S1x1x8x128_0_0_0_0).toLoadRect (harg2.unread x))
          shapeCasts_S1x1x8x128_S8x128) bitsLt_bf16_f32)) (harg2.unread x) s l (by
    pointwise
    simp only [readAt_tok, Matrix.cons_val, Nat.zero_add, Nat.add_zero, Fin.val_zero]
    rfl) 102 (Nat.le_refl 102)
  rw [harg2.read_unread] at h0
  exact h0

/-- The decoded tokens a run of the body stores. -/
theorem all_xh_k (u0 u1 : Vec F S1x1024x8x128 .bf16) (y1 : Fin 1024) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).1 (ix4 0 y1 s l)
      (gHat (amax (toks u0 s l)) (toks u0 s l) y1.val) := by
  unfold kernelRun0_A
  dsimp only
  repeat' (first | exact View.allAt_nil _ _ | refine View.allAt_cons_unit _ _ _ _ _ ?_ ?_)
  rotate_right
  · have key : ∀ a, a (ix2 s l) = amax (toks u0 s l) → View.AllAt (pb_k0_t2 (F := F) Variants.none c none i arg2 harg2 arg3 harg3 arg4 harg4 arg5 harg5 arg6 harg6 arg7 harg7 arg8 harg8 arg9 harg9 arg10 harg10 arg11 harg11 arg12 harg12 arg13 harg13 a (harg2.unread u0) 25).1 (ix4 0 y1 s l)
        (gHat (amax (toks u0 s l)) (toks u0 s l) y1.val) := by
      intro a ha
      have := pb_xh_k Variants.none c none i arg2 harg2 arg3 harg3 arg4 harg4 arg5 harg5 arg6 harg6 arg7 harg7 arg8 harg8 arg9 harg9 arg10 harg10 arg11 harg11 arg12 harg12 arg13 harg13 a (harg2.unread u0) y1 s l 25 (Nat.le_refl 25)
      rwa [harg2.read_unread, ha] at this
    refine key _ ?_
    exact st_fin_k c i arg2 harg2 arg3 harg3 arg4 harg4 arg5 harg5 arg6 harg6 arg7 harg7 arg8 harg8 arg9 harg9 arg10 harg10 arg11 harg11 arg12 harg12 arg13 harg13 u0 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    rw [hatV_read]
    fin_cases x1
    all_goals
      simp only [Matrix.cons_val, Fin.isValue, Fin.mk_zero, Fin.mk_one, Fin.reduceFinMk]
      pointwise
      try simp only [aScaleV, aCodeV, dScaleV, dCodeV]
      try pointwise
      try simp only [aScaleV, aCodeV]
      try pointwise
      simp only [q0, q1, q2, q3, Fin.eta, readAt_tok, harg2.read_unread, Matrix.cons_val, Nat.zero_add, Nat.add_zero, Nat.add_assoc, Nat.reduceAdd, Fin.val_zero, st_fin_k c i arg2 harg2 arg3 harg3 arg4 harg4 arg5 harg5 arg6 harg6 arg7 harg7 arg8 harg8 arg9 harg9 arg10 harg10 arg11 harg11 arg12 harg12 arg13 harg13 _ s l]
      simp only [h1, Nat.add_assoc, Nat.reduceAdd, Nat.reduceMul, Nat.reduceMod, Nat.add_zero, Nat.reduceDiv, Nat.reduceLT, gPack, gHat, gCode, gScale, gTop, gBot, gBase, if_true, if_false]
      rfl

/-- The anchor codes a run of the body stores. -/
theorem all_ac_k (u0 u1 : Vec F S1x1024x8x128 .bf16) (y1 : Fin 103) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.1 (ix4 0 y1 s l)
      (FloatOps.fptosi 8 (aCode (amax (toks u0 s l)) ((toks u0 s l) (10 * y1.val)))) := by
  unfold kernelRun0_A
  dsimp only
  repeat' (first | exact View.allAt_nil _ _ | refine View.allAt_cons_unit _ _ _ _ _ ?_ ?_)
  rotate_right
  · have key : ∀ a, a (ix2 s l) = amax (toks u0 s l) → View.AllAt (pb_k0_t2 (F := F) Variants.none c none i arg2 harg2 arg3 harg3 arg4 harg4 arg5 harg5 arg6 harg6 arg7 harg7 arg8 harg8 arg9 harg9 arg10 harg10 arg11 harg11 arg12 harg12 arg13 harg13 a (harg2.unread u0) 25).2.1 (ix4 0 y1 s l)
        (FloatOps.fptosi 8 (aCode (amax (toks u0 s l)) ((toks u0 s l) (10 * y1.val)))) := by
      intro a ha
      have := pb_ac_k Variants.none c none i arg2 harg2 arg3 harg3 arg4 harg4 arg5 harg5 arg6 harg6 arg7 harg7 arg8 harg8 arg9 harg9 arg10 harg10 arg11 harg11 arg12 harg12 arg13 harg13 a (harg2.unread u0) y1 s l 25 (Nat.le_refl 25)
      rwa [harg2.read_unread, ha] at this
    refine key _ ?_
    exact st_fin_k c i arg2 harg2 arg3 harg3 arg4 harg4 arg5 harg5 arg6 harg6 arg7 harg7 arg8 harg8 arg9 harg9 arg10 harg10 arg11 harg11 arg12 harg12 arg13 harg13 u0 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    pointwise
    try simp only [aScaleV, aCodeV, dScaleV, dCodeV]
    try pointwise
    try simp only [aScaleV, aCodeV]
    try pointwise
    simp only [q0, q1, q2, q3, Fin.eta, readAt_tok, harg2.read_unread, Matrix.cons_val, Nat.zero_add, Nat.add_zero, Nat.add_assoc, Nat.reduceAdd, Fin.val_zero, st_fin_k c i arg2 harg2 arg3 harg3 arg4 harg4 arg5 harg5 arg6 harg6 arg7 harg7 arg8 harg8 arg9 harg9 arg10 harg10 arg11 harg11 arg12 harg12 arg13 harg13 _ s l]
    simp only [h1, Nat.add_assoc, Nat.reduceAdd, Nat.reduceMul, Nat.reduceMod, Nat.add_zero, Nat.reduceDiv, Nat.reduceLT, gPack, gHat, gCode, gScale, gTop, gBot, gBase, if_true, if_false]
    rfl

/-- The anchor scales a run of the body stores. -/
theorem all_as_k (u0 u1 : Vec F S1x1024x8x128 .bf16) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.2.1 (ix3 0 s l)
      (aScale (amax (toks u0 s l))) := by
  unfold kernelRun0_A
  dsimp only
  repeat' (first | exact View.allAt_nil _ _ | refine View.allAt_cons_unit _ _ _ _ _ ?_ ?_)
  tile_intro x h
  idx_vars x
  pointwise at h0 h1 h2
  sl_unfold_run_names
  open_payloads_core
  obtain rfl : s = x1 := Fin.ext h1
  obtain rfl : l = x2 := Fin.ext h2
  simp only [aScaleV_fold, aCodeV_fold, dScaleV_fold, dCodeV_fold]
  have q0 : s.val / 8 = 0 := Nat.div_eq_of_lt s.isLt
  have q1 : s.val % 8 = s.val := Nat.mod_eq_of_lt s.isLt
  have q2 : (8 + s.val) / 8 = 1 := by omega
  have q3 : (8 + s.val) % 8 = s.val := by omega
  pointwise
  try simp only [aScaleV, aCodeV, dScaleV, dCodeV]
  try pointwise
  try simp only [aScaleV, aCodeV]
  try pointwise
  simp only [q0, q1, q2, q3, Fin.eta, readAt_tok, harg2.read_unread, Matrix.cons_val, Nat.zero_add, Nat.add_zero, Nat.add_assoc, Nat.reduceAdd, Fin.val_zero, st_fin_k c i arg2 harg2 arg3 harg3 arg4 harg4 arg5 harg5 arg6 harg6 arg7 harg7 arg8 harg8 arg9 harg9 arg10 harg10 arg11 harg11 arg12 harg12 arg13 harg13 _ s l]

/-- The packed codes a run of the body stores. -/
theorem all_dc_k (u0 u1 : Vec F S1x1024x8x128 .bf16) (y1 : Fin 512) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.2.2.1 (ix4 0 y1 s l)
      (gPack (amax (toks u0 s l)) (toks u0 s l) y1.val) := by
  unfold kernelRun0_A
  dsimp only
  repeat' (first | exact View.allAt_nil _ _ | refine View.allAt_cons_unit _ _ _ _ _ ?_ ?_)
  rotate_right
  · have key : ∀ a, a (ix2 s l) = amax (toks u0 s l) → View.AllAt (pb_k0_t2 (F := F) Variants.none c none i arg2 harg2 arg3 harg3 arg4 harg4 arg5 harg5 arg6 harg6 arg7 harg7 arg8 harg8 arg9 harg9 arg10 harg10 arg11 harg11 arg12 harg12 arg13 harg13 a (harg2.unread u0) 25).2.2.1 (ix4 0 y1 s l)
        (gPack (amax (toks u0 s l)) (toks u0 s l) y1.val) := by
      intro a ha
      have := pb_dc_k Variants.none c none i arg2 harg2 arg3 harg3 arg4 harg4 arg5 harg5 arg6 harg6 arg7 harg7 arg8 harg8 arg9 harg9 arg10 harg10 arg11 harg11 arg12 harg12 arg13 harg13 a (harg2.unread u0) y1 s l 25 (Nat.le_refl 25)
      rwa [harg2.read_unread, ha] at this
    refine key _ ?_
    exact st_fin_k c i arg2 harg2 arg3 harg3 arg4 harg4 arg5 harg5 arg6 harg6 arg7 harg7 arg8 harg8 arg9 harg9 arg10 harg10 arg11 harg11 arg12 harg12 arg13 harg13 u0 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    rw [packV_read]
    fin_cases x1
    all_goals
      simp only [Matrix.cons_val, Fin.isValue, Fin.mk_zero, Fin.mk_one, Fin.reduceFinMk]
      pointwise
      try simp only [aScaleV, aCodeV, dScaleV, dCodeV]
      try pointwise
      try simp only [aScaleV, aCodeV]
      try pointwise
      simp only [q0, q1, q2, q3, Fin.eta, readAt_tok, harg2.read_unread, Matrix.cons_val, Nat.zero_add, Nat.add_zero, Nat.add_assoc, Nat.reduceAdd, Fin.val_zero, st_fin_k c i arg2 harg2 arg3 harg3 arg4 harg4 arg5 harg5 arg6 harg6 arg7 harg7 arg8 harg8 arg9 harg9 arg10 harg10 arg11 harg11 arg12 harg12 arg13 harg13 _ s l]
      simp only [h1, Nat.add_assoc, Nat.reduceAdd, Nat.reduceMul, Nat.reduceMod, Nat.add_zero, Nat.reduceDiv, Nat.reduceLT, gPack, gHat, gCode, gScale, gTop, gBot, gBase, if_true, if_false]
      rfl

/-- The group scales a run of the body stores. -/
theorem all_ds_k (u0 u1 : Vec F S1x1024x8x128 .bf16) (y1 : Fin 103) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.2.2.2.1 (ix4 0 y1 s l)
      (gScale (amax (toks u0 s l)) (toks u0 s l) y1.val) := by
  unfold kernelRun0_A
  dsimp only
  repeat' (first | exact View.allAt_nil _ _ | refine View.allAt_cons_unit _ _ _ _ _ ?_ ?_)
  rotate_right
  · have key : ∀ a, a (ix2 s l) = amax (toks u0 s l) → View.AllAt (pb_k0_t2 (F := F) Variants.none c none i arg2 harg2 arg3 harg3 arg4 harg4 arg5 harg5 arg6 harg6 arg7 harg7 arg8 harg8 arg9 harg9 arg10 harg10 arg11 harg11 arg12 harg12 arg13 harg13 a (harg2.unread u0) 25).2.2.2 (ix4 0 y1 s l)
        (gScale (amax (toks u0 s l)) (toks u0 s l) y1.val) := by
      intro a ha
      have := pb_ds_k Variants.none c none i arg2 harg2 arg3 harg3 arg4 harg4 arg5 harg5 arg6 harg6 arg7 harg7 arg8 harg8 arg9 harg9 arg10 harg10 arg11 harg11 arg12 harg12 arg13 harg13 a (harg2.unread u0) y1 s l 25 (Nat.le_refl 25)
      rwa [harg2.read_unread, ha] at this
    refine key _ ?_
    exact st_fin_k c i arg2 harg2 arg3 harg3 arg4 harg4 arg5 harg5 arg6 harg6 arg7 harg7 arg8 harg8 arg9 harg9 arg10 harg10 arg11 harg11 arg12 harg12 arg13 harg13 u0 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    pointwise
    try simp only [aScaleV, aCodeV, dScaleV, dCodeV]
    try pointwise
    try simp only [aScaleV, aCodeV]
    try pointwise
    simp only [q0, q1, q2, q3, Fin.eta, readAt_tok, harg2.read_unread, Matrix.cons_val, Nat.zero_add, Nat.add_zero, Nat.add_assoc, Nat.reduceAdd, Fin.val_zero, st_fin_k c i arg2 harg2 arg3 harg3 arg4 harg4 arg5 harg5 arg6 harg6 arg7 harg7 arg8 harg8 arg9 harg9 arg10 harg10 arg11 harg11 arg12 harg12 arg13 harg13 _ s l]
    simp only [h1, Nat.add_assoc, Nat.reduceAdd, Nat.reduceMul, Nat.reduceMod, Nat.add_zero, Nat.reduceDiv, Nat.reduceLT, gPack, gHat, gCode, gScale, gTop, gBot, gBase, if_true, if_false]
    rfl

end Cert.Codec

end
-- ==== Proof.Hand.TripV.lean ====
/- What one trip of the kernel's group loop over the second tensor stores, in terms of the block's tokens: each of its stores
   has, at every element it covers, the value of the specification. -/
module

public import proofs.«01_k».proof.Proof.Hand.Loads

@[expose] public section

set_option maxRecDepth 16384
set_option maxHeartbeats 4000000

noncomputable section

namespace Cert.Codec

open Idealize.ShloMosaic Idealize.ShloMosaic.TcCoe Idealize.ShloMosaic.Tactic
open Cert.KernelIdeal Cert.KernelIdeal.Gen

variable {F : FTy → Type} [FloatOps F]

variable (𝒱 : Variants) (c : Dev nD) (bd : Option 𝒱.V) (i : grid0.Coords) (arg2 : Memref sig .tc .vmem S1x1024x8x128 .bf16) (harg2 : arg2.IsWhole) (arg3 : Memref sig .tc .vmem S1x1024x8x128 .bf16) (harg3 : arg3.IsWhole) (arg4 : Memref sig .tc .vmem S1x1024x8x128 .bf16) (harg4 : arg4.IsWhole) (arg5 : Memref sig .tc .vmem S1x1024x8x128 .bf16) (harg5 : arg5.IsWhole) (arg6 : Memref sig .tc .vmem S1x103x8x128 .i8) (harg6 : arg6.IsWhole) (arg7 : Memref sig .tc .vmem S1x8x128 .f32) (harg7 : arg7.IsWhole) (arg8 : Memref sig .tc .vmem S1x512x8x128 .i8) (harg8 : arg8.IsWhole) (arg9 : Memref sig .tc .vmem S1x103x8x128 .f32) (harg9 : arg9.IsWhole) (arg10 : Memref sig .tc .vmem S1x103x8x128 .i8) (harg10 : arg10.IsWhole) (arg11 : Memref sig .tc .vmem S1x8x128 .f32) (harg11 : arg11.IsWhole) (arg12 : Memref sig .tc .vmem S1x512x8x128 .i8) (harg12 : arg12.IsWhole) (arg13 : Memref sig .tc .vmem S1x103x8x128 .f32) (harg13 : arg13.IsWhole)

/-- The stored group scales. -/
theorem trip_ds_v (e : IVec S4x8x128 8) (a : FVec F S8x128 .f32) (X : BufTy.Contents (Elt F) arg3.view.ty) (k : Fin k0_t4_loop.trips) (y1 : Fin 103) (s : Fin 8) (l : Fin 128) :
    View.AllAt (tripL_k0_t4 (F := F) 𝒱 c bd i arg2 harg2 arg3 harg3 arg4 harg4 arg5 harg5 arg6 harg6 arg7 harg7 arg8 harg8 arg9 harg9 arg10 harg10 arg11 harg11 arg12 harg12 arg13 harg13 e a X k).2.2.2 (ix4 0 y1 s l)
      (gScale (a (ix2 s l)) (toks (arg3.view.read (Elt F) X) s l) y1.val) := by
  have hk : k.val < 25 := k.isLt
  unfold tripL_k0_t4 trip_k0_t4
  dsimp only
  repeat' (first | exact View.allAt_nil _ _ | refine View.allAt_cons_unit _ _ _ _ _ ?_ ?_)
  all_goals
    tile_intro x h
    idx_vars x
    simp only [k0_off13_eq, k0_off15_eq, k0_off17_eq, k0_off19_eq] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    pointwise
    simp only [aScaleV, aCodeV, dScaleV, dCodeV]
    pointwise
    try simp only [aScaleV, aCodeV]
    try pointwise
    simp only [q0, q1, q2, q3, Fin.eta, readAt_tok, off12_lit, off14_lit, off16_lit, off18_lit, Matrix.cons_val, Nat.zero_add, Nat.add_zero, Nat.add_assoc, Nat.reduceAdd, Fin.val_zero]
    simp only [h1, Nat.add_assoc, Nat.reduceAdd, Nat.reduceMul, Nat.reduceMod, Nat.add_zero, Nat.mul_add_div (show 5 > 0 by decide),
      Nat.mul_div_cancel_left _ (show 0 < 5 by decide), Nat.mul_add_mod, Nat.mul_mod_right, Nat.mul_add_div (show 10 > 0 by decide),
      Nat.mul_div_cancel_left _ (show 0 < 10 by decide), Nat.reduceDiv, gPack, gHat, gCode, gScale, gTop, gBot, gBase, f0, f1, f2, f3, if_true]
    rfl

/-- The stored anchor codes. -/
theorem trip_ac_v (e : IVec S4x8x128 8) (a : FVec F S8x128 .f32) (X : BufTy.Contents (Elt F) arg3.view.ty) (k : Fin k0_t4_loop.trips) (y1 : Fin 103) (s : Fin 8) (l : Fin 128) :
    View.AllAt (tripL_k0_t4 (F := F) 𝒱 c bd i arg2 harg2 arg3 harg3 arg4 harg4 arg5 harg5 arg6 harg6 arg7 harg7 arg8 harg8 arg9 harg9 arg10 harg10 arg11 harg11 arg12 harg12 arg13 harg13 e a X k).2.1 (ix4 0 y1 s l)
      (FloatOps.fptosi 8 (aCode (a (ix2 s l)) ((toks (arg3.view.read (Elt F) X) s l) (10 * y1.val)))) := by
  have hk : k.val < 25 := k.isLt
  unfold tripL_k0_t4 trip_k0_t4
  dsimp only
  repeat' (first | exact View.allAt_nil _ _ | refine View.allAt_cons_unit _ _ _ _ _ ?_ ?_)
  all_goals
    tile_intro x h
    idx_vars x
    simp only [k0_off13_eq, k0_off15_eq, k0_off17_eq, k0_off19_eq] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    pointwise
    simp only [aScaleV, aCodeV, dScaleV, dCodeV]
    pointwise
    try simp only [aScaleV, aCodeV]
    try pointwise
    simp only [q0, q1, q2, q3, Fin.eta, readAt_tok, off12_lit, off14_lit, off16_lit, off18_lit, Matrix.cons_val, Nat.zero_add, Nat.add_zero, Nat.add_assoc, Nat.reduceAdd, Fin.val_zero]
    simp only [h1, Nat.add_assoc, Nat.reduceAdd, Nat.reduceMul, Nat.reduceMod, Nat.add_zero, Nat.mul_add_div (show 5 > 0 by decide),
      Nat.mul_div_cancel_left _ (show 0 < 5 by decide), Nat.mul_add_mod, Nat.mul_mod_right, Nat.mul_add_div (show 10 > 0 by decide),
      Nat.mul_div_cancel_left _ (show 0 < 10 by decide), Nat.reduceDiv, gPack, gHat, gCode, gScale, gTop, gBot, gBase, f0, f1, f2, f3, if_true]
    rfl

/-- The stored decoded tokens. -/
theorem trip_xh_v (e : IVec S4x8x128 8) (a : FVec F S8x128 .f32) (X : BufTy.Contents (Elt F) arg3.view.ty) (k : Fin k0_t4_loop.trips) (y1 : Fin 1024) (s : Fin 8) (l : Fin 128) :
    View.AllAt (tripL_k0_t4 (F := F) 𝒱 c bd i arg2 harg2 arg3 harg3 arg4 harg4 arg5 harg5 arg6 harg6 arg7 harg7 arg8 harg8 arg9 harg9 arg10 harg10 arg11 harg11 arg12 harg12 arg13 harg13 e a X k).1 (ix4 0 y1 s l)
      (gHat (a (ix2 s l)) (toks (arg3.view.read (Elt F) X) s l) y1.val) := by
  have hk : k.val < 25 := k.isLt
  unfold tripL_k0_t4 trip_k0_t4
  dsimp only
  repeat' (first | exact View.allAt_nil _ _ | refine View.allAt_cons_unit _ _ _ _ _ ?_ ?_)
  all_goals
    tile_intro x h
    idx_vars x
    simp only [off12_lit, off14_lit, off16_lit, off18_lit] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    rw [hatV_read]
    fin_cases x1
    all_goals
      simp only [Matrix.cons_val, Fin.isValue, Fin.mk_zero, Fin.mk_one, Fin.reduceFinMk]
      pointwise
      simp only [aScaleV, aCodeV, dScaleV, dCodeV]
      pointwise
      try simp only [aScaleV, aCodeV]
      try pointwise
      simp only [q0, q1, q2, q3, Fin.eta, readAt_tok, off12_lit, off14_lit, off16_lit, off18_lit, Matrix.cons_val, Nat.zero_add, Nat.add_zero, Nat.add_assoc, Nat.reduceAdd, Fin.val_zero]
      simp only [h1, Nat.add_assoc, Nat.reduceAdd, Nat.reduceMul, Nat.reduceMod, Nat.add_zero, Nat.mul_add_div (show 5 > 0 by decide),
        Nat.mul_div_cancel_left _ (show 0 < 5 by decide), Nat.mul_add_mod, Nat.mul_mod_right, Nat.mul_add_div (show 10 > 0 by decide),
        Nat.mul_div_cancel_left _ (show 0 < 10 by decide), Nat.reduceDiv, gPack, gHat, gCode, gScale, gTop, gBot, gBase, f0, f1, f2, f3, if_true]
      rfl

/-- The stored packed codes. -/
theorem trip_dc_v (e : IVec S4x8x128 8) (a : FVec F S8x128 .f32) (X : BufTy.Contents (Elt F) arg3.view.ty) (k : Fin k0_t4_loop.trips) (y1 : Fin 512) (s : Fin 8) (l : Fin 128) :
    View.AllAt (tripL_k0_t4 (F := F) 𝒱 c bd i arg2 harg2 arg3 harg3 arg4 harg4 arg5 harg5 arg6 harg6 arg7 harg7 arg8 harg8 arg9 harg9 arg10 harg10 arg11 harg11 arg12 harg12 arg13 harg13 e a X k).2.2.1 (ix4 0 y1 s l)
      (gPack (a (ix2 s l)) (toks (arg3.view.read (Elt F) X) s l) y1.val) := by
  have hk : k.val < 25 := k.isLt
  unfold tripL_k0_t4 trip_k0_t4
  dsimp only
  repeat' (first | exact View.allAt_nil _ _ | refine View.allAt_cons_unit _ _ _ _ _ ?_ ?_)
  all_goals
    tile_intro x h
    idx_vars x
    simp only [off20_lit] at h0 h1 h2 h3
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    have f0 : 4 * k.val < 102 := by omega
    have f1 : 4 * k.val + 1 < 102 := by omega
    have f2 : 4 * k.val + 2 < 102 := by omega
    have f3 : 4 * k.val + 3 < 102 := by omega
    rw [packV_read]
    fin_cases x1
    all_goals
      simp only [Matrix.cons_val, Fin.isValue, Fin.mk_zero, Fin.mk_one, Fin.reduceFinMk]
      pointwise
      simp only [aScaleV, aCodeV, dScaleV, dCodeV]
      pointwise
      try simp only [aScaleV, aCodeV]
      try pointwise
      simp only [q0, q1, q2, q3, Fin.eta, readAt_tok, off12_lit, off14_lit, off16_lit, off18_lit, Matrix.cons_val, Nat.zero_add, Nat.add_zero, Nat.add_assoc, Nat.reduceAdd, Fin.val_zero]
      simp only [h1, Nat.add_assoc, Nat.reduceAdd, Nat.reduceMul, Nat.reduceMod, Nat.add_zero, Nat.mul_add_div (show 5 > 0 by decide),
        Nat.mul_div_cancel_left _ (show 0 < 5 by decide), Nat.mul_add_mod, Nat.mul_mod_right, Nat.mul_add_div (show 10 > 0 by decide),
        Nat.mul_div_cancel_left _ (show 0 < 10 by decide), Nat.reduceDiv, gPack, gHat, gCode, gScale, gTop, gBot, gBase, f0, f1, f2, f3, if_true]
      rfl

end Cert.Codec

end
-- ==== Proof.Hand.BodyV.lean ====
/- What one run of the kernel's body leaves in the outputs of the second tensor, element by element, in terms of the
   block's tokens: the anchor maximum's loop, the group loop and the last three groups. -/
module

public import proofs.«01_k».proof.Proof.Hand.TripV

@[expose] public section

set_option maxRecDepth 16384
set_option maxHeartbeats 4000000

noncomputable section

namespace Cert.Codec

open Idealize.ShloMosaic Idealize.ShloMosaic.TcCoe Idealize.ShloMosaic.Tactic
open Cert.KernelIdeal Cert.KernelIdeal.Gen

variable {F : FTy → Type} [FloatOps F]

variable (𝒱 : Variants) (c : Dev nD) (bd : Option 𝒱.V) (i : grid0.Coords) (arg2 : Memref sig .tc .vmem S1x1024x8x128 .bf16) (harg2 : arg2.IsWhole) (arg3 : Memref sig .tc .vmem S1x1024x8x128 .bf16) (harg3 : arg3.IsWhole) (arg4 : Memref sig .tc .vmem S1x1024x8x128 .bf16) (harg4 : arg4.IsWhole) (arg5 : Memref sig .tc .vmem S1x1024x8x128 .bf16) (harg5 : arg5.IsWhole) (arg6 : Memref sig .tc .vmem S1x103x8x128 .i8) (harg6 : arg6.IsWhole) (arg7 : Memref sig .tc .vmem S1x8x128 .f32) (harg7 : arg7.IsWhole) (arg8 : Memref sig .tc .vmem S1x512x8x128 .i8) (harg8 : arg8.IsWhole) (arg9 : Memref sig .tc .vmem S1x103x8x128 .f32) (harg9 : arg9.IsWhole) (arg10 : Memref sig .tc .vmem S1x103x8x128 .i8) (harg10 : arg10.IsWhole) (arg11 : Memref sig .tc .vmem S1x8x128 .f32) (harg11 : arg11.IsWhole) (arg12 : Memref sig .tc .vmem S1x512x8x128 .i8) (harg12 : arg12.IsWhole) (arg13 : Memref sig .tc .vmem S1x103x8x128 .f32) (harg13 : arg13.IsWhole)

/-- Where trip `k` of the anchor loop reads. -/
theorem off11_at (k : Fin k0_t3_loop.trips) : k0_off11 k = ![0, 10 * k.val + 10, 0, 0] := off_at (k0_off11_eq k) (by omega)

/-- The anchor loop's carried value is the largest absolute value of the anchors read so far. -/
theorem st_read_v (e : IVec S4x8x128 8) (init : FVec F S8x128 .f32) (X : BufTy.Contents (Elt F) arg3.view.ty) (s : Fin 8) (l : Fin 128)
    (h0 : init (ix2 s l) = amaxN (toks (arg3.view.read (Elt F) X) s l) 0) :
    ∀ n, n ≤ 102 → st_k0_t3 (F := F) 𝒱 c bd i arg2 harg2 arg3 harg3 arg4 harg4 arg5 harg5 arg6 harg6 arg7 harg7 arg8 harg8 arg9 harg9 arg10 harg10 arg11 harg11 arg12 harg12 arg13 harg13 e X init n (ix2 s l) = amaxN (toks (arg3.view.read (Elt F) X) s l) n
  | 0, _ => h0
  | n + 1, hn => by
    have ih := st_read_v e init X s l h0 n (by omega)
    rw [st_k0_t3_succ (F := F) 𝒱 c bd i arg2 harg2 arg3 harg3 arg4 harg4 arg5 harg5 arg6 harg6 arg7 harg7 arg8 harg8 arg9 harg9 arg10 harg10 arg11 harg11 arg12 harg12 arg13 harg13 e X init ⟨n, hn⟩]
    unfold tripR_k0_t3 trip_k0_t3
    dsimp only
    sl_unfold_run_names
    open_payloads_core
    pointwise
    simp only [readAt_tok, off11_at, Matrix.cons_val, Nat.zero_add, Nat.add_zero, Fin.val_zero]
    rw [ih]
    rfl

/-- The decoded tokens all the trips before `n` store. -/
theorem pb_xh_v (e : IVec S4x8x128 8) (a : FVec F S8x128 .f32) (X : BufTy.Contents (Elt F) arg3.view.ty) (y1 : Fin 1024) (s : Fin 8) (l : Fin 128) :
    ∀ n, n ≤ 25 → View.AllAt (pb_k0_t4 (F := F) 𝒱 c bd i arg2 harg2 arg3 harg3 arg4 harg4 arg5 harg5 arg6 harg6 arg7 harg7 arg8 harg8 arg9 harg9 arg10 harg10 arg11 harg11 arg12 harg12 arg13 harg13 e a X n).1 (ix4 0 y1 s l) (gHat (a (ix2 s l)) (toks (arg3.view.read (Elt F) X) s l) y1.val)
  | 0, _ => View.allAt_nil _ _
  | n + 1, hn => by
    rw [pb_k0_t4_succ (F := F) 𝒱 c bd i arg2 harg2 arg3 harg3 arg4 harg4 arg5 harg5 arg6 harg6 arg7 harg7 arg8 harg8 arg9 harg9 arg10 harg10 arg11 harg11 arg12 harg12 arg13 harg13 e a X ⟨n, hn⟩]
    exact allAt_append (trip_xh_v 𝒱 c bd i arg2 harg2 arg3 harg3 arg4 harg4 arg5 harg5 arg6 harg6 arg7 harg7 arg8 harg8 arg9 harg9 arg10 harg10 arg11 harg11 arg12 harg12 arg13 harg13 e a X ⟨n, hn⟩ y1 s l) (pb_xh_v e a X y1 s l n (by omega))

/-- The anchor codes all the trips before `n` store. -/
theorem pb_ac_v (e : IVec S4x8x128 8) (a : FVec F S8x128 .f32) (X : BufTy.Contents (Elt F) arg3.view.ty) (y1 : Fin 103) (s : Fin 8) (l : Fin 128) :
    ∀ n, n ≤ 25 → View.AllAt (pb_k0_t4 (F := F) 𝒱 c bd i arg2 harg2 arg3 harg3 arg4 harg4 arg5 harg5 arg6 harg6 arg7 harg7 arg8 harg8 arg9 harg9 arg10 harg10 arg11 harg11 arg12 harg12 arg13 harg13 e a X n).2.1 (ix4 0 y1 s l) (FloatOps.fptosi 8 (aCode (a (ix2 s l)) ((toks (arg3.view.read (Elt F) X) s l) (10 * y1.val))))
  | 0, _ => View.allAt_nil _ _
  | n + 1, hn => by
    rw [pb_k0_t4_succ (F := F) 𝒱 c bd i arg2 harg2 arg3 harg3 arg4 harg4 arg5 harg5 arg6 harg6 arg7 harg7 arg8 harg8 arg9 harg9 arg10 harg10 arg11 harg11 arg12 harg12 arg13 harg13 e a X ⟨n, hn⟩]
    exact allAt_append (trip_ac_v 𝒱 c bd i arg2 harg2 arg3 harg3 arg4 harg4 arg5 harg5 arg6 harg6 arg7 harg7 arg8 harg8 arg9 harg9 arg10 harg10 arg11 harg11 arg12 harg12 arg13 harg13 e a X ⟨n, hn⟩ y1 s l) (pb_ac_v e a X y1 s l n (by omega))

/-- The packed codes all the trips before `n` store. -/
theorem pb_dc_v (e : IVec S4x8x128 8) (a : FVec F S8x128 .f32) (X : BufTy.Contents (Elt F) arg3.view.ty) (y1 : Fin 512) (s : Fin 8) (l : Fin 128) :
    ∀ n, n ≤ 25 → View.AllAt (pb_k0_t4 (F := F) 𝒱 c bd i arg2 harg2 arg3 harg3 arg4 harg4 arg5 harg5 arg6 harg6 arg7 harg7 arg8 harg8 arg9 harg9 arg10 harg10 arg11 harg11 arg12 harg12 arg13 harg13 e a X n).2.2.1 (ix4 0 y1 s l) (gPack (a (ix2 s l)) (toks (arg3.view.read (Elt F) X) s l) y1.val)
  | 0, _ => View.allAt_nil _ _
  | n + 1, hn => by
    rw [pb_k0_t4_succ (F := F) 𝒱 c bd i arg2 harg2 arg3 harg3 arg4 harg4 arg5 harg5 arg6 harg6 arg7 harg7 arg8 harg8 arg9 harg9 arg10 harg10 arg11 harg11 arg12 harg12 arg13 harg13 e a X ⟨n, hn⟩]
    exact allAt_append (trip_dc_v 𝒱 c bd i arg2 harg2 arg3 harg3 arg4 harg4 arg5 harg5 arg6 harg6 arg7 harg7 arg8 harg8 arg9 harg9 arg10 harg10 arg11 harg11 arg12 harg12 arg13 harg13 e a X ⟨n, hn⟩ y1 s l) (pb_dc_v e a X y1 s l n (by omega))

/-- The group scales all the trips before `n` store. -/
theorem pb_ds_v (e : IVec S4x8x128 8) (a : FVec F S8x128 .f32) (X : BufTy.Contents (Elt F) arg3.view.ty) (y1 : Fin 103) (s : Fin 8) (l : Fin 128) :
    ∀ n, n ≤ 25 → View.AllAt (pb_k0_t4 (F := F) 𝒱 c bd i arg2 harg2 arg3 harg3 arg4 harg4 arg5 harg5 arg6 harg6 arg7 harg7 arg8 harg8 arg9 harg9 arg10 harg10 arg11 harg11 arg12 harg12 arg13 harg13 e a X n).2.2.2 (ix4 0 y1 s l) (gScale (a (ix2 s l)) (toks (arg3.view.read (Elt F) X) s l) y1.val)
  | 0, _ => View.allAt_nil _ _
  | n + 1, hn => by
    rw [pb_k0_t4_succ (F := F) 𝒱 c bd i arg2 harg2 arg3 harg3 arg4 harg4 arg5 harg5 arg6 harg6 arg7 harg7 arg8 harg8 arg9 harg9 arg10 harg10 arg11 harg11 arg12 harg12 arg13 harg13 e a X ⟨n, hn⟩]
    exact allAt_append (trip_ds_v 𝒱 c bd i arg2 harg2 arg3 harg3 arg4 harg4 arg5 harg5 arg6 harg6 arg7 harg7 arg8 harg8 arg9 harg9 arg10 harg10 arg11 harg11 arg12 harg12 arg13 harg13 e a X ⟨n, hn⟩ y1 s l) (pb_ds_v e a X y1 s l n (by omega))

/-- After all trips the anchor loop has the anchor maximum. -/
theorem st_fin_v (e : IVec S4x8x128 8) (x : Vec F S1x1024x8x128 .bf16) (s : Fin 8) (l : Fin 128) :
    st_k0_t3 (F := F) Variants.none c none i arg2 harg2 arg3 harg3 arg4 harg4 arg5 harg5 arg6 harg6 arg7 harg7 arg8 harg8 arg9 harg9 arg10 harg10 arg11 harg11 arg12 harg12 arg13 harg13 e (harg3.unread x)
      (absf (extf .f32 (shapeCast S8x128 (View.readAt (Elt F) arg3.view
        (Rect.unit (s := S1x1024x8x128) ![0, 0, 0, 0] ![1, 1, 8, 128] inb_S1x1024x8x128_S1x1x8x128_0_0_0_0).toLoadRect (harg3.unread x))
          shapeCasts_S1x1x8x128_S8x128) bitsLt_bf16_f32))
      (Scf.trips (1#32) (Scalar.addi 1#32 102#32) 1#32) (ix2 s l) = amax (toks x s l) := by
  have h0 := st_read_v Variants.none c none i arg2 harg2 arg3 harg3 arg4 harg4 arg5 harg5 arg6 harg6 arg7 harg7 arg8 harg8 arg9 harg9 arg10 harg10 arg11 harg11 arg12 harg12 arg13 harg13 e (absf (extf .f32 (shapeCast S8x128 (View.readAt (Elt F) arg3.view
        (Rect.unit (s := S1x1024x8x128) ![0, 0, 0, 0] ![1, 1, 8, 128] inb_S1x1024x8x128_S1x1x8x128_0_0_0_0).toLoadRect (harg3.unread x))
          shapeCasts_S1x1x8x128_S8x128) bitsLt_bf16_f32)) (harg3.unread x) s l (by
    pointwise
    simp only [readAt_tok, Matrix.cons_val, Nat.zero_add, Nat.add_zero, Fin.val_zero]
    rfl) 102 (Nat.le_refl 102)
  rw [harg3.read_unread] at h0
  exact h0

/-- The decoded tokens a run of the body stores. -/
theorem all_xh_v (u0 u1 : Vec F S1x1024x8x128 .bf16) (y1 : Fin 1024) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.1 (ix4 0 y1 s l)
      (gHat (amax (toks u1 s l)) (toks u1 s l) y1.val) := by
  unfold kernelRun0_A
  dsimp only
  repeat' (first | exact View.allAt_nil _ _ | refine View.allAt_cons_unit _ _ _ _ _ ?_ ?_)
  rotate_right
  · have key : ∀ e, ∀ a, a (ix2 s l) = amax (toks u1 s l) → View.AllAt (pb_k0_t4 (F := F) Variants.none c none i arg2 harg2 arg3 harg3 arg4 harg4 arg5 harg5 arg6 harg6 arg7 harg7 arg8 harg8 arg9 harg9 arg10 harg10 arg11 harg11 arg12 harg12 arg13 harg13 e a (harg3.unread u1) 25).1 (ix4 0 y1 s l)
        (gHat (amax (toks u1 s l)) (toks u1 s l) y1.val) := by
      intro e a ha
      have := pb_xh_v Variants.none c none i arg2 harg2 arg3 harg3 arg4 harg4 arg5 harg5 arg6 harg6 arg7 harg7 arg8 harg8 arg9 harg9 arg10 harg10 arg11 harg11 arg12 harg12 arg13 harg13 e a (harg3.unread u1) y1 s l 25 (Nat.le_refl 25)
      rwa [harg3.read_unread, ha] at this
    refine key _ _ ?_
    exact st_fin_v c i arg2 harg2 arg3 harg3 arg4 harg4 arg5 harg5 arg6 harg6 arg7 harg7 arg8 harg8 arg9 harg9 arg10 harg10 arg11 harg11 arg12 harg12 arg13 harg13 _ u1 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    rw [hatV_read]
    fin_cases x1
    all_goals
      simp only [Matrix.cons_val, Fin.isValue, Fin.mk_zero, Fin.mk_one, Fin.reduceFinMk]
      pointwise
      try simp only [aScaleV, aCodeV, dScaleV, dCodeV]
      try pointwise
      try simp only [aScaleV, aCodeV]
      try pointwise
      simp only [q0, q1, q2, q3, Fin.eta, readAt_tok, harg3.read_unread, Matrix.cons_val, Nat.zero_add, Nat.add_zero, Nat.add_assoc, Nat.reduceAdd, Fin.val_zero, st_fin_v c i arg2 harg2 arg3 harg3 arg4 harg4 arg5 harg5 arg6 harg6 arg7 harg7 arg8 harg8 arg9 harg9 arg10 harg10 arg11 harg11 arg12 harg12 arg13 harg13 _ _ s l]
      simp only [h1, Nat.add_assoc, Nat.reduceAdd, Nat.reduceMul, Nat.reduceMod, Nat.add_zero, Nat.reduceDiv, Nat.reduceLT, gPack, gHat, gCode, gScale, gTop, gBot, gBase, if_true, if_false]
      rfl

/-- The anchor codes a run of the body stores. -/
theorem all_ac_v (u0 u1 : Vec F S1x1024x8x128 .bf16) (y1 : Fin 103) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.2.2.2.2.1 (ix4 0 y1 s l)
      (FloatOps.fptosi 8 (aCode (amax (toks u1 s l)) ((toks u1 s l) (10 * y1.val)))) := by
  unfold kernelRun0_A
  dsimp only
  repeat' (first | exact View.allAt_nil _ _ | refine View.allAt_cons_unit _ _ _ _ _ ?_ ?_)
  rotate_right
  · have key : ∀ e, ∀ a, a (ix2 s l) = amax (toks u1 s l) → View.AllAt (pb_k0_t4 (F := F) Variants.none c none i arg2 harg2 arg3 harg3 arg4 harg4 arg5 harg5 arg6 harg6 arg7 harg7 arg8 harg8 arg9 harg9 arg10 harg10 arg11 harg11 arg12 harg12 arg13 harg13 e a (harg3.unread u1) 25).2.1 (ix4 0 y1 s l)
        (FloatOps.fptosi 8 (aCode (amax (toks u1 s l)) ((toks u1 s l) (10 * y1.val)))) := by
      intro e a ha
      have := pb_ac_v Variants.none c none i arg2 harg2 arg3 harg3 arg4 harg4 arg5 harg5 arg6 harg6 arg7 harg7 arg8 harg8 arg9 harg9 arg10 harg10 arg11 harg11 arg12 harg12 arg13 harg13 e a (harg3.unread u1) y1 s l 25 (Nat.le_refl 25)
      rwa [harg3.read_unread, ha] at this
    refine key _ _ ?_
    exact st_fin_v c i arg2 harg2 arg3 harg3 arg4 harg4 arg5 harg5 arg6 harg6 arg7 harg7 arg8 harg8 arg9 harg9 arg10 harg10 arg11 harg11 arg12 harg12 arg13 harg13 _ u1 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    pointwise
    try simp only [aScaleV, aCodeV, dScaleV, dCodeV]
    try pointwise
    try simp only [aScaleV, aCodeV]
    try pointwise
    simp only [q0, q1, q2, q3, Fin.eta, readAt_tok, harg3.read_unread, Matrix.cons_val, Nat.zero_add, Nat.add_zero, Nat.add_assoc, Nat.reduceAdd, Fin.val_zero, st_fin_v c i arg2 harg2 arg3 harg3 arg4 harg4 arg5 harg5 arg6 harg6 arg7 harg7 arg8 harg8 arg9 harg9 arg10 harg10 arg11 harg11 arg12 harg12 arg13 harg13 _ _ s l]
    simp only [h1, Nat.add_assoc, Nat.reduceAdd, Nat.reduceMul, Nat.reduceMod, Nat.add_zero, Nat.reduceDiv, Nat.reduceLT, gPack, gHat, gCode, gScale, gTop, gBot, gBase, if_true, if_false]
    rfl

/-- The anchor scales a run of the body stores. -/
theorem all_as_v (u0 u1 : Vec F S1x1024x8x128 .bf16) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.2.2.2.2.2.1 (ix3 0 s l)
      (aScale (amax (toks u1 s l))) := by
  unfold kernelRun0_A
  dsimp only
  repeat' (first | exact View.allAt_nil _ _ | refine View.allAt_cons_unit _ _ _ _ _ ?_ ?_)
  tile_intro x h
  idx_vars x
  pointwise at h0 h1 h2
  sl_unfold_run_names
  open_payloads_core
  obtain rfl : s = x1 := Fin.ext h1
  obtain rfl : l = x2 := Fin.ext h2
  simp only [aScaleV_fold, aCodeV_fold, dScaleV_fold, dCodeV_fold]
  have q0 : s.val / 8 = 0 := Nat.div_eq_of_lt s.isLt
  have q1 : s.val % 8 = s.val := Nat.mod_eq_of_lt s.isLt
  have q2 : (8 + s.val) / 8 = 1 := by omega
  have q3 : (8 + s.val) % 8 = s.val := by omega
  pointwise
  try simp only [aScaleV, aCodeV, dScaleV, dCodeV]
  try pointwise
  try simp only [aScaleV, aCodeV]
  try pointwise
  simp only [q0, q1, q2, q3, Fin.eta, readAt_tok, harg3.read_unread, Matrix.cons_val, Nat.zero_add, Nat.add_zero, Nat.add_assoc, Nat.reduceAdd, Fin.val_zero, st_fin_v c i arg2 harg2 arg3 harg3 arg4 harg4 arg5 harg5 arg6 harg6 arg7 harg7 arg8 harg8 arg9 harg9 arg10 harg10 arg11 harg11 arg12 harg12 arg13 harg13 _ _ s l]

/-- The packed codes a run of the body stores. -/
theorem all_dc_v (u0 u1 : Vec F S1x1024x8x128 .bf16) (y1 : Fin 512) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.2.2.2.2.2.2.1 (ix4 0 y1 s l)
      (gPack (amax (toks u1 s l)) (toks u1 s l) y1.val) := by
  unfold kernelRun0_A
  dsimp only
  repeat' (first | exact View.allAt_nil _ _ | refine View.allAt_cons_unit _ _ _ _ _ ?_ ?_)
  rotate_right
  · have key : ∀ e, ∀ a, a (ix2 s l) = amax (toks u1 s l) → View.AllAt (pb_k0_t4 (F := F) Variants.none c none i arg2 harg2 arg3 harg3 arg4 harg4 arg5 harg5 arg6 harg6 arg7 harg7 arg8 harg8 arg9 harg9 arg10 harg10 arg11 harg11 arg12 harg12 arg13 harg13 e a (harg3.unread u1) 25).2.2.1 (ix4 0 y1 s l)
        (gPack (amax (toks u1 s l)) (toks u1 s l) y1.val) := by
      intro e a ha
      have := pb_dc_v Variants.none c none i arg2 harg2 arg3 harg3 arg4 harg4 arg5 harg5 arg6 harg6 arg7 harg7 arg8 harg8 arg9 harg9 arg10 harg10 arg11 harg11 arg12 harg12 arg13 harg13 e a (harg3.unread u1) y1 s l 25 (Nat.le_refl 25)
      rwa [harg3.read_unread, ha] at this
    refine key _ _ ?_
    exact st_fin_v c i arg2 harg2 arg3 harg3 arg4 harg4 arg5 harg5 arg6 harg6 arg7 harg7 arg8 harg8 arg9 harg9 arg10 harg10 arg11 harg11 arg12 harg12 arg13 harg13 _ u1 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    rw [packV_read]
    fin_cases x1
    all_goals
      simp only [Matrix.cons_val, Fin.isValue, Fin.mk_zero, Fin.mk_one, Fin.reduceFinMk]
      pointwise
      try simp only [aScaleV, aCodeV, dScaleV, dCodeV]
      try pointwise
      try simp only [aScaleV, aCodeV]
      try pointwise
      simp only [q0, q1, q2, q3, Fin.eta, readAt_tok, harg3.read_unread, Matrix.cons_val, Nat.zero_add, Nat.add_zero, Nat.add_assoc, Nat.reduceAdd, Fin.val_zero, st_fin_v c i arg2 harg2 arg3 harg3 arg4 harg4 arg5 harg5 arg6 harg6 arg7 harg7 arg8 harg8 arg9 harg9 arg10 harg10 arg11 harg11 arg12 harg12 arg13 harg13 _ _ s l]
      simp only [h1, Nat.add_assoc, Nat.reduceAdd, Nat.reduceMul, Nat.reduceMod, Nat.add_zero, Nat.reduceDiv, Nat.reduceLT, gPack, gHat, gCode, gScale, gTop, gBot, gBase, if_true, if_false]
      rfl

/-- The group scales a run of the body stores. -/
theorem all_ds_v (u0 u1 : Vec F S1x1024x8x128 .bf16) (y1 : Fin 103) (s : Fin 8) (l : Fin 128) :
    View.AllAt (kernelRun0_A (F := F) c i arg2 harg2 arg3 harg3 arg4 harg4 arg5 harg5 arg6 harg6 arg7 harg7 arg8 harg8 arg9 harg9 arg10 harg10 arg11 harg11 arg12 harg12 arg13 harg13 u0 u1).2.2.2.2.2.2.2.2.2.1 (ix4 0 y1 s l)
      (gScale (amax (toks u1 s l)) (toks u1 s l) y1.val) := by
  unfold kernelRun0_A
  dsimp only
  repeat' (first | exact View.allAt_nil _ _ | refine View.allAt_cons_unit _ _ _ _ _ ?_ ?_)
  rotate_right
  · have key : ∀ e, ∀ a, a (ix2 s l) = amax (toks u1 s l) → View.AllAt (pb_k0_t4 (F := F) Variants.none c none i arg2 harg2 arg3 harg3 arg4 harg4 arg5 harg5 arg6 harg6 arg7 harg7 arg8 harg8 arg9 harg9 arg10 harg10 arg11 harg11 arg12 harg12 arg13 harg13 e a (harg3.unread u1) 25).2.2.2 (ix4 0 y1 s l)
        (gScale (amax (toks u1 s l)) (toks u1 s l) y1.val) := by
      intro e a ha
      have := pb_ds_v Variants.none c none i arg2 harg2 arg3 harg3 arg4 harg4 arg5 harg5 arg6 harg6 arg7 harg7 arg8 harg8 arg9 harg9 arg10 harg10 arg11 harg11 arg12 harg12 arg13 harg13 e a (harg3.unread u1) y1 s l 25 (Nat.le_refl 25)
      rwa [harg3.read_unread, ha] at this
    refine key _ _ ?_
    exact st_fin_v c i arg2 harg2 arg3 harg3 arg4 harg4 arg5 harg5 arg6 harg6 arg7 harg7 arg8 harg8 arg9 harg9 arg10 harg10 arg11 harg11 arg12 harg12 arg13 harg13 _ u1 s l
  all_goals
    tile_intro x h
    idx_vars x
    pointwise at h0 h1 h2 h3
    sl_unfold_run_names
    open_payloads_core
    obtain rfl : s = x2 := Fin.ext h2
    obtain rfl : l = x3 := Fin.ext h3
    simp only [aScaleV_fold, aCodeV_fold, dScaleV_fold, dCodeV_fold]
    have q0 : s.val / 8 = 0 := Nat.div_eq_of_lt s.isLt
    have q1 : s.val % 8 = s.val := Nat.mod_eq_of_lt s.isLt
    have q2 : (8 + s.val) / 8 = 1 := by omega
    have q3 : (8 + s.val) % 8 = s.val := by omega
    pointwise
    try simp only [aScaleV, aCodeV, dScaleV, dCodeV]
    try pointwise
    try simp only [aScaleV, aCodeV]
    try pointwise
    simp only [q0, q1, q2, q3, Fin.eta, readAt_tok, harg3.read_unread, Matrix.cons_val, Nat.zero_add, Nat.add_zero, Nat.add_assoc, Nat.reduceAdd, Fin.val_zero, st_fin_v c i arg2 harg2 arg3 harg3 arg4 harg4 arg5 harg5 arg6 harg6 arg7 harg7 arg8 harg8 arg9 harg9 arg10 harg10 arg11 harg11 arg12 harg12 arg13 harg13 _ _ s l]
    simp only [h1, Nat.add_assoc, Nat.reduceAdd, Nat.reduceMul, Nat.reduceMod, Nat.add_zero, Nat.reduceDiv, Nat.reduceLT, gPack, gHat, gCode, gScale, gTop, gBot, gBase, if_true, if_false]
    rfl

end Cert.Codec

end
-- ==== Proof.Hand.Out.lean ====
/- What the kernel's run leaves in each of its ten result arrays: the same formula of the tokens at every index. The first
   half reads one run of the body at an index of its block, the second half places the blocks in the arrays. -/
module

public import proofs.«01_k».proof.Proof.Hand.BodyK
public import proofs.«01_k».proof.Proof.Hand.BodyV
public import proofs.«01_k».proof.Proof.Gen.KernelIdeal.Frame
public import proofs.«01_k».proof.Proof.Gen.KernelIdeal.Value
public import Idealize.ShloMosaic.Lib.Pipeline.ValueKit

@[expose] public section

set_option maxRecDepth 16384
set_option maxHeartbeats 4000000

noncomputable section

namespace Cert.Codec

open Idealize.ShloMosaic Idealize.ShloMosaic.TcCoe Idealize.ShloMosaic.Tactic
open Cert.KernelIdeal Cert.KernelIdeal.Gen

variable {F : FTy → Type} [FloatOps F]

/-- One whole tensor of tokens. -/
abbrev Arr (F : FTy → Type) := S2x1024x40x128.Idx → F .bf16

/-- The tokens of a tensor at a batch, a head and a channel. -/
def tokA (x : Arr F) (b : Fin 2) (h : Fin 40) (l : Fin 128) (n : ℕ) : F .bf16 := x (ix4 b ⟨min n 1023, by omega⟩ h l)

/-- The decoded tensor. -/
def arrHat (x : Arr F) : S2x1024x40x128.Idx → F .bf16 := fun j =>
  gHat (amax (tokA x (j 0) (j 2) (j 3))) (tokA x (j 0) (j 2) (j 3)) (j 1).val

/-- The anchors' codes. -/
def arrAC (x : Arr F) : S2x103x40x128.Idx → BitVec 8 := fun j =>
  FloatOps.fptosi 8 (aCode (amax (tokA x (j 0) (j 2) (j 3))) (tokA x (j 0) (j 2) (j 3) (10 * (j 1).val)))

/-- The anchors' scales. -/
def arrAS (x : Arr F) : S2x40x128.Idx → F .f32 := fun j => aScale (amax (tokA x (j 0) (j 1) (j 2)))

/-- The packed codes of the differences. -/
def arrDC (x : Arr F) : S2x512x40x128.Idx → BitVec 8 := fun j =>
  gPack (amax (tokA x (j 0) (j 2) (j 3))) (tokA x (j 0) (j 2) (j 3)) (j 1).val

/-- The scales of the differences. -/
def arrDS (x : Arr F) : S2x103x40x128.Idx → F .f32 := fun j =>
  gScale (amax (tokA x (j 0) (j 2) (j 3))) (tokA x (j 0) (j 2) (j 3)) (j 1).val

/-- An index of a block with one batch, from its last three coordinates. -/
theorem idx4_eq {n : ℕ} (y : Shape.Idx ⟨4, ![1, n, 8, 128]⟩) : y = ix4 0 (y 1) (y 2) (y 3) := by
  rw [eq_ix4 y]; congr 1; exact Subsingleton.elim (α := Fin 1) _ _

/-- An index of a scale block, from its last two coordinates. -/
theorem idx3_eq (y : S1x8x128.Idx) : y = ix3 0 (y 1) (y 2) := by
  rw [eq_ix3 y]; congr 1; exact Subsingleton.elim (α := Fin 1) _ _

/-- What a run's stores leave at an index that all of them agree on. -/
theorem out_of {sig : RefSig} {κ} {sp} {S : Shape} {e : EltTy} (v : View sig κ sp S e)
    (f : BufTy.Contents (Elt F) v.ty) (L : List (View.Piece (Elt F) S e)) (y : S.Idx) (a : Elt F e) (hc : ∃ pc ∈ L, y ∈ pc.1.set)
    (ha : View.AllAt L y a) : v.read (Elt F) (v.writes (Elt F) f L) y = a :=
  (View.read_writes_apply_eq_canon v f y L hc).trans (View.canon_eq_of_allAt L y a hc ha)

section
variable (c : Dev nD) (i : grid0.Coords) (arg2 : Memref sig .tc .vmem S1x1024x8x128 .bf16) (harg2 : arg2.IsWhole) (arg3 : Memref sig .tc .vmem S1x1024x8x128 .bf16) (harg3 : arg3.IsWhole) (arg4 : Memref sig .tc .vmem S1x1024x8x128 .bf16) (harg4 : arg4.IsWhole) (arg5 : Memref sig .tc .vmem S1x1024x8x128 .bf16) (harg5 : arg5.IsWhole) (arg6 : Memref sig .tc .vmem S1x103x8x128 .i8) (harg6 : arg6.IsWhole) (arg7 : Memref sig .tc .vmem S1x8x128 .f32) (harg7 : arg7.IsWhole) (arg8 : Memref sig .tc .vmem S1x512x8x128 .i8) (harg8 : arg8.IsWhole) (arg9 : Memref sig .tc .vmem S1x103x8x128 .f32) (harg9 : arg9.IsWhole) (arg10 : Memref sig .tc .vmem S1x103x8x128 .i8) (harg10 : arg10.IsWhole) (arg11 : Memref sig .tc .vmem S1x8x128 .f32) (harg11 : arg11.IsWhole) (arg12 : Memref sig .tc .vmem S1x512x8x128 .i8) (harg12 : arg12.IsWhole) (arg13 : Memref sig .tc .vmem S1x103x8x128 .f32) (harg13 : arg13.IsWhole)

/-- One run of the body leaves the decoded tokens of the first tensor's block. -/
theorem out_xh_k (u0 u1 : Vec F S1x1024x8x128 .bf16) (y1 : Fin 1024) (s : Fin 8) (l : Fin 128) :
    out0_A_2 (F := F) c i arg2 harg2 arg3 harg3 arg4 harg4 arg5 harg5 arg6 harg6 arg7 harg7 arg8 harg8 arg9 harg9 arg10 harg10 arg11 harg11 arg12 harg12 arg13 harg13 u0 u1 (ix4 0 y1 s l) = gHat (amax (toks u0 s l)) (toks u0 s l) y1.val := by
  unfold out0_A_2
  exact out_of _ _ _ _ _ (cover0_A_2 (F := F) c i arg2 harg2 arg3 harg3 arg4 harg4 arg5 harg5 arg6 harg6 arg7 harg7 arg8 harg8 arg9 harg9 arg10 harg10 arg11 harg11 arg12 harg12 arg13 harg13 u0 u1 _) (all_xh_k (F := F) c i arg2 harg2 arg3 harg3 arg4 harg4 arg5 harg5 arg6 harg6 arg7 harg7 arg8 harg8 arg9 harg9 arg10 harg10 arg11 harg11 arg12 harg12 arg13 harg13 u0 u1 y1 s l)

/-- One run of the body leaves the anchors' codes of the first tensor's block. -/
theorem out_ac_k (u0 u1 : Vec F S1x1024x8x128 .bf16) (y1 : Fin 103) (s : Fin 8) (l : Fin 128) :
    out0_A_4 (F := F) c i arg2 harg2 arg3 harg3 arg4 harg4 arg5 harg5 arg6 harg6 arg7 harg7 arg8 harg8 arg9 harg9 arg10 harg10 arg11 harg11 arg12 harg12 arg13 harg13 u0 u1 (ix4 0 y1 s l) = FloatOps.fptosi 8 (aCode (amax (toks u0 s l)) ((toks u0 s l) (10 * y1.val))) := by
  unfold out0_A_4
  exact out_of _ _ _ _ _ (cover0_A_4 (F := F) c i arg2 harg2 arg3 harg3 arg4 harg4 arg5 harg5 arg6 harg6 arg7 harg7 arg8 harg8 arg9 harg9 arg10 harg10 arg11 harg11 arg12 harg12 arg13 harg13 u0 u1 _) (all_ac_k (F := F) c i arg2 harg2 arg3 harg3 arg4 harg4 arg5 harg5 arg6 harg6 arg7 harg7 arg8 harg8 arg9 harg9 arg10 harg10 arg11 harg11 arg12 harg12 arg13 harg13 u0 u1 y1 s l)

/-- One run of the body leaves the anchors' scale of the first tensor's block. -/
theorem out_as_k (u0 u1 : Vec F S1x1024x8x128 .bf16) (s : Fin 8) (l : Fin 128) :
    out0_A_5 (F := F) c i arg2 harg2 arg3 harg3 arg4 harg4 arg5 harg5 arg6 harg6 arg7 harg7 arg8 harg8 arg9 harg9 arg10 harg10 arg11 harg11 arg12 harg12 arg13 harg13 u0 u1 (ix3 0 s l) = aScale (amax (toks u0 s l)) := by
  unfold out0_A_5
  exact out_of _ _ _ _ _ (cover0_A_5 (F := F) c i arg2 harg2 arg3 harg3 arg4 harg4 arg5 harg5 arg6 harg6 arg7 harg7 arg8 harg8 arg9 harg9 arg10 harg10 arg11 harg11 arg12 harg12 arg13 harg13 u0 u1 _) (all_as_k (F := F) c i arg2 harg2 arg3 harg3 arg4 harg4 arg5 harg5 arg6 harg6 arg7 harg7 arg8 harg8 arg9 harg9 arg10 harg10 arg11 harg11 arg12 harg12 arg13 harg13 u0 u1 s l)

/-- One run of the body leaves the packed codes of the differences of the first tensor's block. -/
theorem out_dc_k (u0 u1 : Vec F S1x1024x8x128 .bf16) (y1 : Fin 512) (s : Fin 8) (l : Fin 128) :
    out0_A_6 (F := F) c i arg2 harg2 arg3 harg3 arg4 harg4 arg5 harg5 arg6 harg6 arg7 harg7 arg8 harg8 arg9 harg9 arg10 harg10 arg11 harg11 arg12 harg12 arg13 harg13 u0 u1 (ix4 0 y1 s l) = gPack (amax (toks u0 s l)) (toks u0 s l) y1.val := by
  unfold out0_A_6
  exact out_of _ _ _ _ _ (cover0_A_6 (F := F) c i arg2 harg2 arg3 harg3 arg4 harg4 arg5 harg5 arg6 harg6 arg7 harg7 arg8 harg8 arg9 harg9 arg10 harg10 arg11 harg11 arg12 harg12 arg13 harg13 u0 u1 _) (all_dc_k (F := F) c i arg2 harg2 arg3 harg3 arg4 harg4 arg5 harg5 arg6 harg6 arg7 harg7 arg8 harg8 arg9 harg9 arg10 harg10 arg11 harg11 arg12 harg12 arg13 harg13 u0 u1 y1 s l)

/-- One run of the body leaves the scales of the differences of the first tensor's block. -/
theorem out_ds_k (u0 u1 : Vec F S1x1024x8x128 .bf16) (y1 : Fin 103) (s : Fin 8) (l : Fin 128) :
    out0_A_7 (F := F) c i arg2 harg2 arg3 harg3 arg4 harg4 arg5 harg5 arg6 harg6 arg7 harg7 arg8 harg8 arg9 harg9 arg10 harg10 arg11 harg11 arg12 harg12 arg13 harg13 u0 u1 (ix4 0 y1 s l) = gScale (amax (toks u0 s l)) (toks u0 s l) y1.val := by
  unfold out0_A_7
  exact out_of _ _ _ _ _ (cover0_A_7 (F := F) c i arg2 harg2 arg3 harg3 arg4 harg4 arg5 harg5 arg6 harg6 arg7 harg7 arg8 harg8 arg9 harg9 arg10 harg10 arg11 harg11 arg12 harg12 arg13 harg13 u0 u1 _) (all_ds_k (F := F) c i arg2 harg2 arg3 harg3 arg4 harg4 arg5 harg5 arg6 harg6 arg7 harg7 arg8 harg8 arg9 harg9 arg10 harg10 arg11 harg11 arg12 harg12 arg13 harg13 u0 u1 y1 s l)

/-- One run of the body leaves the decoded tokens of the second tensor's block. -/
theorem out_xh_v (u0 u1 : Vec F S1x1024x8x128 .bf16) (y1 : Fin 1024) (s : Fin 8) (l : Fin 128) :
    out0_A_3 (F := F) c i arg2 harg2 arg3 harg3 arg4 harg4 arg5 harg5 arg6 harg6 arg7 harg7 arg8 harg8 arg9 harg9 arg10 harg10 arg11 harg11 arg12 harg12 arg13 harg13 u0 u1 (ix4 0 y1 s l) = gHat (amax (toks u1 s l)) (toks u1 s l) y1.val := by
  unfold out0_A_3
  exact out_of _ _ _ _ _ (cover0_A_3 (F := F) c i arg2 harg2 arg3 harg3 arg4 harg4 arg5 harg5 arg6 harg6 arg7 harg7 arg8 harg8 arg9 harg9 arg10 harg10 arg11 harg11 arg12 harg12 arg13 harg13 u0 u1 _) (all_xh_v (F := F) c i arg2 harg2 arg3 harg3 arg4 harg4 arg5 harg5 arg6 harg6 arg7 harg7 arg8 harg8 arg9 harg9 arg10 harg10 arg11 harg11 arg12 harg12 arg13 harg13 u0 u1 y1 s l)

/-- One run of the body leaves the anchors' codes of the second tensor's block. -/
theorem out_ac_v (u0 u1 : Vec F S1x1024x8x128 .bf16) (y1 : Fin 103) (s : Fin 8) (l : Fin 128) :
    out0_A_8 (F := F) c i arg2 harg2 arg3 harg3 arg4 harg4 arg5 harg5 arg6 harg6 arg7 harg7 arg8 harg8 arg9 harg9 arg10 harg10 arg11 harg11 arg12 harg12 arg13 harg13 u0 u1 (ix4 0 y1 s l) = FloatOps.fptosi 8 (aCode (amax (toks u1 s l)) ((toks u1 s l) (10 * y1.val))) := by
  unfold out0_A_8
  exact out_of _ _ _ _ _ (cover0_A_8 (F := F) c i arg2 harg2 arg3 harg3 arg4 harg4 arg5 harg5 arg6 harg6 arg7 harg7 arg8 harg8 arg9 harg9 arg10 harg10 arg11 harg11 arg12 harg12 arg13 harg13 u0 u1 _) (all_ac_v (F := F) c i arg2 harg2 arg3 harg3 arg4 harg4 arg5 harg5 arg6 harg6 arg7 harg7 arg8 harg8 arg9 harg9 arg10 harg10 arg11 harg11 arg12 harg12 arg13 harg13 u0 u1 y1 s l)

/-- One run of the body leaves the anchors' scale of the second tensor's block. -/
theorem out_as_v (u0 u1 : Vec F S1x1024x8x128 .bf16) (s : Fin 8) (l : Fin 128) :
    out0_A_9 (F := F) c i arg2 harg2 arg3 harg3 arg4 harg4 arg5 harg5 arg6 harg6 arg7 harg7 arg8 harg8 arg9 harg9 arg10 harg10 arg11 harg11 arg12 harg12 arg13 harg13 u0 u1 (ix3 0 s l) = aScale (amax (toks u1 s l)) := by
  unfold out0_A_9
  exact out_of _ _ _ _ _ (cover0_A_9 (F := F) c i arg2 harg2 arg3 harg3 arg4 harg4 arg5 harg5 arg6 harg6 arg7 harg7 arg8 harg8 arg9 harg9 arg10 harg10 arg11 harg11 arg12 harg12 arg13 harg13 u0 u1 _) (all_as_v (F := F) c i arg2 harg2 arg3 harg3 arg4 harg4 arg5 harg5 arg6 harg6 arg7 harg7 arg8 harg8 arg9 harg9 arg10 harg10 arg11 harg11 arg12 harg12 arg13 harg13 u0 u1 s l)

/-- One run of the body leaves the packed codes of the differences of the second tensor's block. -/
theorem out_dc_v (u0 u1 : Vec F S1x1024x8x128 .bf16) (y1 : Fin 512) (s : Fin 8) (l : Fin 128) :
    out0_A_10 (F := F) c i arg2 harg2 arg3 harg3 arg4 harg4 arg5 harg5 arg6 harg6 arg7 harg7 arg8 harg8 arg9 harg9 arg10 harg10 arg11 harg11 arg12 harg12 arg13 harg13 u0 u1 (ix4 0 y1 s l) = gPack (amax (toks u1 s l)) (toks u1 s l) y1.val := by
  unfold out0_A_10
  exact out_of _ _ _ _ _ (cover0_A_10 (F := F) c i arg2 harg2 arg3 harg3 arg4 harg4 arg5 harg5 arg6 harg6 arg7 harg7 arg8 harg8 arg9 harg9 arg10 harg10 arg11 harg11 arg12 harg12 arg13 harg13 u0 u1 _) (all_dc_v (F := F) c i arg2 harg2 arg3 harg3 arg4 harg4 arg5 harg5 arg6 harg6 arg7 harg7 arg8 harg8 arg9 harg9 arg10 harg10 arg11 harg11 arg12 harg12 arg13 harg13 u0 u1 y1 s l)

/-- One run of the body leaves the scales of the differences of the second tensor's block. -/
theorem out_ds_v (u0 u1 : Vec F S1x1024x8x128 .bf16) (y1 : Fin 103) (s : Fin 8) (l : Fin 128) :
    out0_A_11 (F := F) c i arg2 harg2 arg3 harg3 arg4 harg4 arg5 harg5 arg6 harg6 arg7 harg7 arg8 harg8 arg9 harg9 arg10 harg10 arg11 harg11 arg12 harg12 arg13 harg13 u0 u1 (ix4 0 y1 s l) = gScale (amax (toks u1 s l)) (toks u1 s l) y1.val := by
  unfold out0_A_11
  exact out_of _ _ _ _ _ (cover0_A_11 (F := F) c i arg2 harg2 arg3 harg3 arg4 harg4 arg5 harg5 arg6 harg6 arg7 harg7 arg8 harg8 arg9 harg9 arg10 harg10 arg11 harg11 arg12 harg12 arg13 harg13 u0 u1 _) (all_ds_v (F := F) c i arg2 harg2 arg3 harg3 arg4 harg4 arg5 harg5 arg6 harg6 arg7 harg7 arg8 harg8 arg9 harg9 arg10 harg10 arg11 harg11 arg12 harg12 arg13 harg13 u0 u1 y1 s l)

end

end Cert.Codec

end
-- ==== Proof.Hand.Arrays.lean ====
/- What the kernel's run leaves in each of its ten result arrays: the formulas of Out.lean at every index of the array,
   the blocks of the ten grid points placed next to each other. -/
module

public import proofs.«01_k».proof.Proof.Hand.Out
public import proofs.«01_k».proof.Proof.Gen.KernelIdeal.Frame
public import proofs.«01_k».proof.Proof.Gen.KernelIdeal.Value
public import Idealize.ShloMosaic.Lib.Pipeline.ValueKit

@[expose] public section

set_option maxRecDepth 16384
set_option maxHeartbeats 4000000

noncomputable section

namespace Cert.Codec

open Idealize.ShloMosaic Idealize.ShloMosaic.TcCoe Idealize.ShloMosaic.Tactic
open Cert.KernelIdeal Cert.KernelIdeal.Gen

variable {F : FTy → Type} [FloatOps F]

section
variable (m : (ℓ : Loc nD τ sig) → Buf (Elt F) ℓ)

/-- Where window 0 places a point's block, in terms of window 0. -/
theorem points0 : ∀ t : Fin cfg0.N, (win0_0.index t (0 : Fin 4) = win0_0.index t (0 : Fin 4) ∧ win0_0.index t (1 : Fin 4) = 0 ∧ win0_0.index t (2 : Fin 4) = win0_0.index t (2 : Fin 4) ∧ win0_0.index t (3 : Fin 4) = 0) :=
  (by decide +kernel : ∀ t : Fin grid0.N, (win0_0.index t (0 : Fin 4) = win0_0.index t (0 : Fin 4) ∧ win0_0.index t (1 : Fin 4) = 0 ∧ win0_0.index t (2 : Fin 4) = win0_0.index t (2 : Fin 4) ∧ win0_0.index t (3 : Fin 4) = 0))

/-- Where window 1 places a point's block, in terms of window 0. -/
theorem points1 : ∀ t : Fin cfg0.N, (win0_1.index t (0 : Fin 4) = win0_0.index t (0 : Fin 4) ∧ win0_1.index t (1 : Fin 4) = 0 ∧ win0_1.index t (2 : Fin 4) = win0_0.index t (2 : Fin 4) ∧ win0_1.index t (3 : Fin 4) = 0) :=
  (by decide +kernel : ∀ t : Fin grid0.N, (win0_1.index t (0 : Fin 4) = win0_0.index t (0 : Fin 4) ∧ win0_1.index t (1 : Fin 4) = 0 ∧ win0_1.index t (2 : Fin 4) = win0_0.index t (2 : Fin 4) ∧ win0_1.index t (3 : Fin 4) = 0))

/-- Where window 2 places a point's block, in terms of window 0. -/
theorem points2 : ∀ t : Fin cfg0.N, (win0_2.index t (0 : Fin 4) = win0_0.index t (0 : Fin 4) ∧ win0_2.index t (1 : Fin 4) = 0 ∧ win0_2.index t (2 : Fin 4) = win0_0.index t (2 : Fin 4) ∧ win0_2.index t (3 : Fin 4) = 0) :=
  (by decide +kernel : ∀ t : Fin grid0.N, (win0_2.index t (0 : Fin 4) = win0_0.index t (0 : Fin 4) ∧ win0_2.index t (1 : Fin 4) = 0 ∧ win0_2.index t (2 : Fin 4) = win0_0.index t (2 : Fin 4) ∧ win0_2.index t (3 : Fin 4) = 0))

/-- Where window 3 places a point's block, in terms of window 0. -/
theorem points3 : ∀ t : Fin cfg0.N, (win0_3.index t (0 : Fin 4) = win0_0.index t (0 : Fin 4) ∧ win0_3.index t (1 : Fin 4) = 0 ∧ win0_3.index t (2 : Fin 4) = win0_0.index t (2 : Fin 4) ∧ win0_3.index t (3 : Fin 4) = 0) :=
  (by decide +kernel : ∀ t : Fin grid0.N, (win0_3.index t (0 : Fin 4) = win0_0.index t (0 : Fin 4) ∧ win0_3.index t (1 : Fin 4) = 0 ∧ win0_3.index t (2 : Fin 4) = win0_0.index t (2 : Fin 4) ∧ win0_3.index t (3 : Fin 4) = 0))

/-- Where window 4 places a point's block, in terms of window 0. -/
theorem points4 : ∀ t : Fin cfg0.N, (win0_4.index t (0 : Fin 4) = win0_0.index t (0 : Fin 4) ∧ win0_4.index t (1 : Fin 4) = 0 ∧ win0_4.index t (2 : Fin 4) = win0_0.index t (2 : Fin 4) ∧ win0_4.index t (3 : Fin 4) = 0) :=
  (by decide +kernel : ∀ t : Fin grid0.N, (win0_4.index t (0 : Fin 4) = win0_0.index t (0 : Fin 4) ∧ win0_4.index t (1 : Fin 4) = 0 ∧ win0_4.index t (2 : Fin 4) = win0_0.index t (2 : Fin 4) ∧ win0_4.index t (3 : Fin 4) = 0))

/-- Where window 5 places a point's block, in terms of window 0. -/
theorem points5 : ∀ t : Fin cfg0.N, (win0_5.index t (0 : Fin 3) = win0_0.index t (0 : Fin 4) ∧ win0_5.index t (1 : Fin 3) = win0_0.index t (2 : Fin 4) ∧ win0_5.index t (2 : Fin 3) = 0) :=
  (by decide +kernel : ∀ t : Fin grid0.N, (win0_5.index t (0 : Fin 3) = win0_0.index t (0 : Fin 4) ∧ win0_5.index t (1 : Fin 3) = win0_0.index t (2 : Fin 4) ∧ win0_5.index t (2 : Fin 3) = 0))

/-- Where window 6 places a point's block, in terms of window 0. -/
theorem points6 : ∀ t : Fin cfg0.N, (win0_6.index t (0 : Fin 4) = win0_0.index t (0 : Fin 4) ∧ win0_6.index t (1 : Fin 4) = 0 ∧ win0_6.index t (2 : Fin 4) = win0_0.index t (2 : Fin 4) ∧ win0_6.index t (3 : Fin 4) = 0) :=
  (by decide +kernel : ∀ t : Fin grid0.N, (win0_6.index t (0 : Fin 4) = win0_0.index t (0 : Fin 4) ∧ win0_6.index t (1 : Fin 4) = 0 ∧ win0_6.index t (2 : Fin 4) = win0_0.index t (2 : Fin 4) ∧ win0_6.index t (3 : Fin 4) = 0))

/-- Where window 7 places a point's block, in terms of window 0. -/
theorem points7 : ∀ t : Fin cfg0.N, (win0_7.index t (0 : Fin 4) = win0_0.index t (0 : Fin 4) ∧ win0_7.index t (1 : Fin 4) = 0 ∧ win0_7.index t (2 : Fin 4) = win0_0.index t (2 : Fin 4) ∧ win0_7.index t (3 : Fin 4) = 0) :=
  (by decide +kernel : ∀ t : Fin grid0.N, (win0_7.index t (0 : Fin 4) = win0_0.index t (0 : Fin 4) ∧ win0_7.index t (1 : Fin 4) = 0 ∧ win0_7.index t (2 : Fin 4) = win0_0.index t (2 : Fin 4) ∧ win0_7.index t (3 : Fin 4) = 0))

/-- Where window 8 places a point's block, in terms of window 0. -/
theorem points8 : ∀ t : Fin cfg0.N, (win0_8.index t (0 : Fin 4) = win0_0.index t (0 : Fin 4) ∧ win0_8.index t (1 : Fin 4) = 0 ∧ win0_8.index t (2 : Fin 4) = win0_0.index t (2 : Fin 4) ∧ win0_8.index t (3 : Fin 4) = 0) :=
  (by decide +kernel : ∀ t : Fin grid0.N, (win0_8.index t (0 : Fin 4) = win0_0.index t (0 : Fin 4) ∧ win0_8.index t (1 : Fin 4) = 0 ∧ win0_8.index t (2 : Fin 4) = win0_0.index t (2 : Fin 4) ∧ win0_8.index t (3 : Fin 4) = 0))

/-- Where window 9 places a point's block, in terms of window 0. -/
theorem points9 : ∀ t : Fin cfg0.N, (win0_9.index t (0 : Fin 3) = win0_0.index t (0 : Fin 4) ∧ win0_9.index t (1 : Fin 3) = win0_0.index t (2 : Fin 4) ∧ win0_9.index t (2 : Fin 3) = 0) :=
  (by decide +kernel : ∀ t : Fin grid0.N, (win0_9.index t (0 : Fin 3) = win0_0.index t (0 : Fin 4) ∧ win0_9.index t (1 : Fin 3) = win0_0.index t (2 : Fin 4) ∧ win0_9.index t (2 : Fin 3) = 0))

/-- Where window 10 places a point's block, in terms of window 0. -/
theorem points10 : ∀ t : Fin cfg0.N, (win0_10.index t (0 : Fin 4) = win0_0.index t (0 : Fin 4) ∧ win0_10.index t (1 : Fin 4) = 0 ∧ win0_10.index t (2 : Fin 4) = win0_0.index t (2 : Fin 4) ∧ win0_10.index t (3 : Fin 4) = 0) :=
  (by decide +kernel : ∀ t : Fin grid0.N, (win0_10.index t (0 : Fin 4) = win0_0.index t (0 : Fin 4) ∧ win0_10.index t (1 : Fin 4) = 0 ∧ win0_10.index t (2 : Fin 4) = win0_0.index t (2 : Fin 4) ∧ win0_10.index t (3 : Fin 4) = 0))

/-- Where window 11 places a point's block, in terms of window 0. -/
theorem points11 : ∀ t : Fin cfg0.N, (win0_11.index t (0 : Fin 4) = win0_0.index t (0 : Fin 4) ∧ win0_11.index t (1 : Fin 4) = 0 ∧ win0_11.index t (2 : Fin 4) = win0_0.index t (2 : Fin 4) ∧ win0_11.index t (3 : Fin 4) = 0) :=
  (by decide +kernel : ∀ t : Fin grid0.N, (win0_11.index t (0 : Fin 4) = win0_0.index t (0 : Fin 4) ∧ win0_11.index t (1 : Fin 4) = 0 ∧ win0_11.index t (2 : Fin 4) = win0_0.index t (2 : Fin 4) ∧ win0_11.index t (3 : Fin 4) = 0))

/-- The tokens of a point's block of the first tensor are that tensor's tokens. -/
theorem toks_iblk0 (c : Dev nD) (t : Fin cfg0.N) (s : Fin 8) (l : Fin 128) (b : Fin 2) (h : Fin 40) (l' : Fin 128)
    (hb : b.val = win0_0.index t (0 : Fin 4)) (hh : h.val = win0_0.index t (2 : Fin 4) * 8 + s.val) (hl : l'.val = l.val) :
    toks (F := F) (iblk m c 0 t) s l = tokA (m ((c : Thread nD τ).loc main_arg0)) b h l' := by
  have hp := points0 t
  funext n
  unfold toks tok4 tokA
  blk_ext [iblk, V, hp.2.1, hp.2.2.2]

/-- The tokens of a point's block of the second tensor are that tensor's tokens. -/
theorem toks_iblk1 (c : Dev nD) (t : Fin cfg0.N) (s : Fin 8) (l : Fin 128) (b : Fin 2) (h : Fin 40) (l' : Fin 128)
    (hb : b.val = win0_0.index t (0 : Fin 4)) (hh : h.val = win0_0.index t (2 : Fin 4) * 8 + s.val) (hl : l'.val = l.val) :
    toks (F := F) (iblk m c 1 t) s l = tokA (m ((c : Thread nD τ).loc main_arg1)) b h l' := by
  have hp := points1 t
  funext n
  unfold toks tok4 tokA
  blk_ext [iblk, V, hp]

/-- The kernel's result array of the decoded tokens of the first tensor. -/
theorem final_2 (c : Dev nD) : (dats m 0 c).arrAt 2 cfg0.N = arrHat (m ((c : Thread nD τ).loc main_arg0)) := by
  refine (dats m 0 c).arrAt_eq_of_covers 2 _ (by decide +kernel) fun t hf y => ?_
  obtain ⟨y1, s, l, rfl⟩ : ∃ y1 s l, y = ix4 0 y1 s l := ⟨_, _, _, idx4_eq y⟩
  blk_simp
  rw [after0_2]
  unfold outsAt0
  dsimp only
  refine (out_xh_k (F := F) c _ _ _ _ _ _ _ _ _ _ _ _ _ _ _ _ _ _ _ _ _ _ _ _ _ _ _ _ _ _).trans ?_
  have hp := points2 t
  generalize he : ((View.whole main_v0_0).slice (win0_2.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk0 m c t s l (e (0 : Fin 4)) (e (2 : Fin 4)) (e (3 : Fin 4)) e0 e2 e3
  unfold arrHat
  rw [← hT, ← e1]

/-- The kernel's result array of the decoded tokens of the second tensor. -/
theorem final_3 (c : Dev nD) : (dats m 0 c).arrAt 3 cfg0.N = arrHat (m ((c : Thread nD τ).loc main_arg1)) := by
  refine (dats m 0 c).arrAt_eq_of_covers 3 _ (by decide +kernel) fun t hf y => ?_
  obtain ⟨y1, s, l, rfl⟩ : ∃ y1 s l, y = ix4 0 y1 s l := ⟨_, _, _, idx4_eq y⟩
  blk_simp
  rw [after0_3]
  unfold outsAt0
  dsimp only
  refine (out_xh_v (F := F) c _ _ _ _ _ _ _ _ _ _ _ _ _ _ _ _ _ _ _ _ _ _ _ _ _ _ _ _ _ _).trans ?_
  have hp := points3 t
  generalize he : ((View.whole main_v0_1).slice (win0_3.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk1 m c t s l (e (0 : Fin 4)) (e (2 : Fin 4)) (e (3 : Fin 4)) e0 e2 e3
  unfold arrHat
  rw [← hT, ← e1]

/-- The kernel's result array of the anchors' codes of the first tensor. -/
theorem final_4 (c : Dev nD) : (dats m 0 c).arrAt 4 cfg0.N = arrAC (m ((c : Thread nD τ).loc main_arg0)) := by
  refine (dats m 0 c).arrAt_eq_of_covers 4 _ (by decide +kernel) fun t hf y => ?_
  obtain ⟨y1, s, l, rfl⟩ : ∃ y1 s l, y = ix4 0 y1 s l := ⟨_, _, _, idx4_eq y⟩
  blk_simp
  rw [after0_4]
  unfold outsAt0
  dsimp only
  refine (out_ac_k (F := F) c _ _ _ _ _ _ _ _ _ _ _ _ _ _ _ _ _ _ _ _ _ _ _ _ _ _ _ _ _ _).trans ?_
  have hp := points4 t
  generalize he : ((View.whole main_v0_2).slice (win0_4.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk0 m c t s l (e (0 : Fin 4)) (e (2 : Fin 4)) (e (3 : Fin 4)) e0 e2 e3
  unfold arrAC
  rw [← hT, ← e1]

/-- The kernel's result array of the anchors' scale of the first tensor. -/
theorem final_5 (c : Dev nD) : (dats m 0 c).arrAt 5 cfg0.N = arrAS (m ((c : Thread nD τ).loc main_arg0)) := by
  refine (dats m 0 c).arrAt_eq_of_covers 5 _ (by decide +kernel) fun t hf y => ?_
  obtain ⟨s, l, rfl⟩ : ∃ s l, y = ix3 0 s l := ⟨_, _, idx3_eq y⟩
  blk_simp
  rw [after0_5]
  unfold outsAt0
  dsimp only
  refine (out_as_k (F := F) c _ _ _ _ _ _ _ _ _ _ _ _ _ _ _ _ _ _ _ _ _ _ _ _ _ _ _ _ _).trans ?_
  have hp := points5 t
  generalize he : ((View.whole main_v0_3).slice (win0_5.rect t)).emb _ = e
  have e0 : (e (0 : Fin 3)).val = win0_0.index t (0 : Fin 4) := by subst he; blk_simp; simp only [hp]; rfl
  have e2 : (e (1 : Fin 3)).val = win0_0.index t (2 : Fin 4) * 8 + s.val := by subst he; blk_simp; simp only [hp]
  have e3 : (e (2 : Fin 3)).val = l.val := by subst he; blk_simp; simp only [hp]; omega
  have hT := toks_iblk0 m c t s l (e (0 : Fin 3)) (e (1 : Fin 3)) (e (2 : Fin 3)) e0 e2 e3
  unfold arrAS
  rw [← hT]

/-- The kernel's result array of the packed codes of the differences of the first tensor. -/
theorem final_6 (c : Dev nD) : (dats m 0 c).arrAt 6 cfg0.N = arrDC (m ((c : Thread nD τ).loc main_arg0)) := by
  refine (dats m 0 c).arrAt_eq_of_covers 6 _ (by decide +kernel) fun t hf y => ?_
  obtain ⟨y1, s, l, rfl⟩ : ∃ y1 s l, y = ix4 0 y1 s l := ⟨_, _, _, idx4_eq y⟩
  blk_simp
  rw [after0_6]
  unfold outsAt0
  dsimp only
  refine (out_dc_k (F := F) c _ _ _ _ _ _ _ _ _ _ _ _ _ _ _ _ _ _ _ _ _ _ _ _ _ _ _ _ _ _).trans ?_
  have hp := points6 t
  generalize he : ((View.whole main_v0_4).slice (win0_6.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk0 m c t s l (e (0 : Fin 4)) (e (2 : Fin 4)) (e (3 : Fin 4)) e0 e2 e3
  unfold arrDC
  rw [← hT, ← e1]

/-- The kernel's result array of the scales of the differences of the first tensor. -/
theorem final_7 (c : Dev nD) : (dats m 0 c).arrAt 7 cfg0.N = arrDS (m ((c : Thread nD τ).loc main_arg0)) := by
  refine (dats m 0 c).arrAt_eq_of_covers 7 _ (by decide +kernel) fun t hf y => ?_
  obtain ⟨y1, s, l, rfl⟩ : ∃ y1 s l, y = ix4 0 y1 s l := ⟨_, _, _, idx4_eq y⟩
  blk_simp
  rw [after0_7]
  unfold outsAt0
  dsimp only
  refine (out_ds_k (F := F) c _ _ _ _ _ _ _ _ _ _ _ _ _ _ _ _ _ _ _ _ _ _ _ _ _ _ _ _ _ _).trans ?_
  have hp := points7 t
  generalize he : ((View.whole main_v0_5).slice (win0_7.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk0 m c t s l (e (0 : Fin 4)) (e (2 : Fin 4)) (e (3 : Fin 4)) e0 e2 e3
  unfold arrDS
  rw [← hT, ← e1]

/-- The kernel's result array of the anchors' codes of the second tensor. -/
theorem final_8 (c : Dev nD) : (dats m 0 c).arrAt 8 cfg0.N = arrAC (m ((c : Thread nD τ).loc main_arg1)) := by
  refine (dats m 0 c).arrAt_eq_of_covers 8 _ (by decide +kernel) fun t hf y => ?_
  obtain ⟨y1, s, l, rfl⟩ : ∃ y1 s l, y = ix4 0 y1 s l := ⟨_, _, _, idx4_eq y⟩
  blk_simp
  rw [after0_8]
  unfold outsAt0
  dsimp only
  refine (out_ac_v (F := F) c _ _ _ _ _ _ _ _ _ _ _ _ _ _ _ _ _ _ _ _ _ _ _ _ _ _ _ _ _ _).trans ?_
  have hp := points8 t
  generalize he : ((View.whole main_v0_6).slice (win0_8.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk1 m c t s l (e (0 : Fin 4)) (e (2 : Fin 4)) (e (3 : Fin 4)) e0 e2 e3
  unfold arrAC
  rw [← hT, ← e1]

/-- The kernel's result array of the anchors' scale of the second tensor. -/
theorem final_9 (c : Dev nD) : (dats m 0 c).arrAt 9 cfg0.N = arrAS (m ((c : Thread nD τ).loc main_arg1)) := by
  refine (dats m 0 c).arrAt_eq_of_covers 9 _ (by decide +kernel) fun t hf y => ?_
  obtain ⟨s, l, rfl⟩ : ∃ s l, y = ix3 0 s l := ⟨_, _, idx3_eq y⟩
  blk_simp
  rw [after0_9]
  unfold outsAt0
  dsimp only
  refine (out_as_v (F := F) c _ _ _ _ _ _ _ _ _ _ _ _ _ _ _ _ _ _ _ _ _ _ _ _ _ _ _ _ _).trans ?_
  have hp := points9 t
  generalize he : ((View.whole main_v0_7).slice (win0_9.rect t)).emb _ = e
  have e0 : (e (0 : Fin 3)).val = win0_0.index t (0 : Fin 4) := by subst he; blk_simp; simp only [hp]; rfl
  have e2 : (e (1 : Fin 3)).val = win0_0.index t (2 : Fin 4) * 8 + s.val := by subst he; blk_simp; simp only [hp]
  have e3 : (e (2 : Fin 3)).val = l.val := by subst he; blk_simp; simp only [hp]; omega
  have hT := toks_iblk1 m c t s l (e (0 : Fin 3)) (e (1 : Fin 3)) (e (2 : Fin 3)) e0 e2 e3
  unfold arrAS
  rw [← hT]

/-- The kernel's result array of the packed codes of the differences of the second tensor. -/
theorem final_10 (c : Dev nD) : (dats m 0 c).arrAt 10 cfg0.N = arrDC (m ((c : Thread nD τ).loc main_arg1)) := by
  refine (dats m 0 c).arrAt_eq_of_covers 10 _ (by decide +kernel) fun t hf y => ?_
  obtain ⟨y1, s, l, rfl⟩ : ∃ y1 s l, y = ix4 0 y1 s l := ⟨_, _, _, idx4_eq y⟩
  blk_simp
  rw [after0_10]
  unfold outsAt0
  dsimp only
  refine (out_dc_v (F := F) c _ _ _ _ _ _ _ _ _ _ _ _ _ _ _ _ _ _ _ _ _ _ _ _ _ _ _ _ _ _).trans ?_
  have hp := points10 t
  generalize he : ((View.whole main_v0_8).slice (win0_10.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk1 m c t s l (e (0 : Fin 4)) (e (2 : Fin 4)) (e (3 : Fin 4)) e0 e2 e3
  unfold arrDC
  rw [← hT, ← e1]

/-- The kernel's result array of the scales of the differences of the second tensor. -/
theorem final_11 (c : Dev nD) : (dats m 0 c).arrAt 11 cfg0.N = arrDS (m ((c : Thread nD τ).loc main_arg1)) := by
  refine (dats m 0 c).arrAt_eq_of_covers 11 _ (by decide +kernel) fun t hf y => ?_
  obtain ⟨y1, s, l, rfl⟩ : ∃ y1 s l, y = ix4 0 y1 s l := ⟨_, _, _, idx4_eq y⟩
  blk_simp
  rw [after0_11]
  unfold outsAt0
  dsimp only
  refine (out_ds_v (F := F) c _ _ _ _ _ _ _ _ _ _ _ _ _ _ _ _ _ _ _ _ _ _ _ _ _ _ _ _ _ _).trans ?_
  have hp := points11 t
  generalize he : ((View.whole main_v0_9).slice (win0_11.rect t)).emb _ = e
  have e0 : (e (0 : Fin 4)).val = win0_0.index t (0 : Fin 4) := by subst he; blk_simp; simp only [hp]; rfl
  have e2 : (e (2 : Fin 4)).val = win0_0.index t (2 : Fin 4) * 8 + s.val := by subst he; blk_simp; simp only [hp]
  have e3 : (e (3 : Fin 4)).val = l.val := by subst he; blk_simp; simp only [hp]; omega
  have e1 : (e (1 : Fin 4)).val = y1.val := by subst he; blk_simp; simp only [hp]; omega
  have hT := toks_iblk1 m c t s l (e (0 : Fin 4)) (e (2 : Fin 4)) (e (3 : Fin 4)) e0 e2 e3
  unfold arrDS
  rw [← hT, ← e1]

end

end Cert.Codec

end
-- ==== Proof.Hand.Arith.lean ====
/- The arithmetic, over the extended reals, that makes the two programs' formulas one: clipping and rounding to an
   integer commute, a code is an integer, a decoded anchor is finite, a group's largest distance from its anchor is the
   larger of its two extremes' distances, and the bytes that hold two codes agree. -/
module

public import proofs.«01_k».proof.Proof.Hand.Spec
public import Idealize.ShloMosaic.Lib.IdealHost
public import Idealize.ShloMosaic.PureOps.Ideal.Laws

@[expose] public section

set_option maxRecDepth 16384

noncomputable section

namespace Cert.Codec

open Idealize.ShloMosaic

/-! ## The constants -/

/-- The integer `z` as an extended real. -/
abbrev ez (z : ℤ) : EReal := ((z : ℝ) : EReal)

/-- The constant 127. -/
theorem c127 : (Ideal.ofBits .f32 1123942400#32 : EReal) = ez 127 := by
  simp [Ideal.ofBits, Ideal.ieee, -EReal.coe_mul]; norm_num
/-- The constant -127. -/
theorem cm127 : (Ideal.ofBits .f32 3271426048#32 : EReal) = ez (-127) := by
  simp [Ideal.ofBits, Ideal.ieee, -EReal.coe_mul, -EReal.coe_neg]; norm_num
/-- The constant 7. -/
theorem c7 : (Ideal.ofBits .f32 1088421888#32 : EReal) = ez 7 := by
  simp [Ideal.ofBits, Ideal.ieee, -EReal.coe_mul]; norm_num
/-- The constant -7. -/
theorem cm7 : (Ideal.ofBits .f32 3235905536#32 : EReal) = ez (-7) := by
  simp [Ideal.ofBits, Ideal.ieee, -EReal.coe_mul, -EReal.coe_neg]; norm_num
/-- The constant a maximum starts from. -/
theorem cninf : (Ideal.ofBits .f32 4286578688#32 : EReal) = ⊥ := by
  simp [Ideal.ofBits, Ideal.ieee]

/-! ## Rounding to the nearest integer -/

/-- Rounding to the nearest integer is monotone. -/
theorem rhe_mono : Monotone Ideal.roundHalfEven := by
  intro r s h
  have hf : ⌊r⌋ ≤ ⌊s⌋ := Int.floor_le_floor h
  rcases hf.lt_or_eq with hl | he
  · have h1 : Ideal.roundHalfEven r ≤ ⌊r⌋ + 1 := by unfold Ideal.roundHalfEven; dsimp only; split_ifs <;> omega
    have h2 : ⌊s⌋ ≤ Ideal.roundHalfEven s := by unfold Ideal.roundHalfEven; dsimp only; split_ifs <;> omega
    omega
  · unfold Ideal.roundHalfEven
    dsimp only
    rw [he]
    split_ifs <;> first | omega | (exfalso; linarith)

/-- An integer rounds to itself. -/
theorem rhe_int (z : ℤ) : Ideal.roundHalfEven (z : ℝ) = z := by
  unfold Ideal.roundHalfEven
  simp

/-- Rounding keeps an integer. -/
theorem round_ez (z : ℤ) : Ideal.liftRound Ideal.roundHalfEven (ez z) = ez z := by
  show (((Ideal.roundHalfEven (z : ℝ) : ℤ) : ℝ) : EReal) = _
  rw [rhe_int]

/-- Rounding stays monotone with the two infinities. -/
theorem lift_mono : Monotone (Ideal.liftRound Ideal.roundHalfEven) := by
  intro x y h
  induction x with
  | bot => exact bot_le
  | top => rw [top_le_iff.mp h]
  | coe r =>
    induction y with
    | bot => exact absurd h (by simp)
    | top => exact le_top
    | coe s => exact EReal.coe_le_coe_iff.mpr (Int.cast_le.mpr (rhe_mono (EReal.coe_le_coe_iff.mp h)))

/-- Clipping to integer bounds and rounding commute. -/
theorem round_clip (M N : ℤ) (x : EReal) :
    Ideal.liftRound Ideal.roundHalfEven (min (ez M) (max (ez N) x)) = min (ez M) (max (ez N) (Ideal.liftRound Ideal.roundHalfEven x)) := by
  rw [lift_mono.map_min, lift_mono.map_max, round_ez, round_ez]

/-- A rounded value, clipped to integer bounds, is an integer between them. -/
theorem clip_int (N : ℤ) (hN : 0 ≤ N) (x : EReal) :
    ∃ z : ℤ, -N ≤ z ∧ z ≤ N ∧ min (ez N) (max (ez (-N)) (Ideal.liftRound Ideal.roundHalfEven x)) = ez z := by
  have hm : Monotone ez := fun a b h => EReal.coe_le_coe_iff.mpr (Int.cast_le.mpr h)
  induction x with
  | bot =>
    refine ⟨-N, le_refl _, by omega, ?_⟩
    show min (ez N) (max (ez (-N)) ⊥) = _
    rw [max_eq_left bot_le, min_eq_right (hm (by omega))]
  | top =>
    refine ⟨N, by omega, le_refl _, ?_⟩
    show min (ez N) (max (ez (-N)) ⊤) = _
    rw [max_eq_right le_top, min_eq_left le_top]
  | coe r =>
    refine ⟨min N (max (-N) (Ideal.roundHalfEven r)), by omega, by omega, ?_⟩
    rw [hm.map_min, hm.map_max]
    rfl

/-! ## Integers as words -/

/-- An integer code converts to the word of the integer. -/
theorem fptosi_ez8 (z : ℤ) (h1 : -128 ≤ z) (h2 : z ≤ 127) : Ideal.fptosi 8 (ez z) = BitVec.ofInt 8 z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

/-- The same at 32 bits. -/
theorem fptosi_ez32 (z : ℤ) (h1 : -128 ≤ z) (h2 : z ≤ 127) : Ideal.fptosi 32 (ez z) = BitVec.ofInt 32 z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

/-- The words of a small integer: cut from 32 bits to 8, and widened back. -/
theorem words : ∀ i : Fin 256,
    BitVec.setWidth 8 (BitVec.ofInt 32 ((i.val : ℤ) - 128)) = BitVec.ofInt 8 ((i.val : ℤ) - 128)
    ∧ BitVec.signExtend 32 (BitVec.ofInt 8 ((i.val : ℤ) - 128)) = BitVec.ofInt 32 ((i.val : ℤ) - 128)
    ∧ (BitVec.ofInt 32 ((i.val : ℤ) - 128)).toInt = (i.val : ℤ) - 128 := by
  decide +kernel

/-- The same of an integer given by its bounds. -/
theorem words_of (z : ℤ) (h1 : -128 ≤ z) (h2 : z ≤ 127) :
    BitVec.setWidth 8 (BitVec.ofInt 32 z) = BitVec.ofInt 8 z ∧ BitVec.signExtend 32 (BitVec.ofInt 8 z) = BitVec.ofInt 32 z
    ∧ (BitVec.ofInt 32 z).toInt = z := by
  have h := words ⟨(z + 128).toNat, by omega⟩
  have e : (((z + 128).toNat : ℕ) : ℤ) - 128 = z := by omega
  simp only [e] at h
  exact h

/-- Two 4-bit codes in one byte: made of 32-bit words and cut, or made of bytes. -/
theorem pack_words : ∀ i j : Fin 15,
    BitVec.setWidth 8 (IntOp.ori (IntOp.andi (BitVec.ofInt 32 ((i.val : ℤ) - 7)) 15#32)
      (IntOp.shli .host (IntOp.andi (BitVec.ofInt 32 ((j.val : ℤ) - 7)) 15#32) 4#32))
    = IntOp.ori (IntOp.andi (BitVec.ofInt 8 ((i.val : ℤ) - 7)) 15#8) (IntOp.shli .vector (BitVec.ofInt 8 ((j.val : ℤ) - 7)) 4#8) := by
  decide +kernel

/-- The same of two integers given by their bounds. -/
theorem pack_of (z w : ℤ) (h1 : -7 ≤ z) (h2 : z ≤ 7) (h3 : -7 ≤ w) (h4 : w ≤ 7) :
    BitVec.setWidth 8 (IntOp.ori (IntOp.andi (BitVec.ofInt 32 z) 15#32) (IntOp.shli .host (IntOp.andi (BitVec.ofInt 32 w) 15#32) 4#32))
    = IntOp.ori (IntOp.andi (BitVec.ofInt 8 z) 15#8) (IntOp.shli .vector (BitVec.ofInt 8 w) 4#8) := by
  have h := pack_words ⟨(z + 7).toNat, by omega⟩ ⟨(w + 7).toNat, by omega⟩
  have e : (((z + 7).toNat : ℕ) : ℤ) - 7 = z := by omega
  have e' : (((w + 7).toNat : ℕ) : ℤ) - 7 = w := by omega
  simp only [e, e'] at h
  exact h

/-! ## The codes -/

/-- An anchor's code is an integer between -127 and 127. -/
theorem aCode_int (a : Ideal .f32) (t : Ideal .bf16) : ∃ z : ℤ, -127 ≤ z ∧ z ≤ 127 ∧ aCode a t = ez z := by
  obtain ⟨z, h1, h2, h3⟩ := clip_int 127 (by omega) (Ideal.div t (aScale a))
  refine ⟨z, h1, h2, ?_⟩
  rw [← h3, ← c127, ← cm127]
  rfl

/-- A difference's code: rounding first and clipping then gives the same. -/
theorem dCode_eq (d b t : Ideal .f32) :
    dCode d b t = min (ez 7) (max (ez (-7)) (Ideal.liftRound Ideal.roundHalfEven (Ideal.div (t - b) d))) := by
  rw [← round_clip, ← c7, ← cm7]
  rfl

/-- A difference's code is an integer between -7 and 7. -/
theorem dCode_int (d b t : Ideal .f32) : ∃ z : ℤ, -7 ≤ z ∧ z ≤ 7 ∧ dCode d b t = ez z := by
  rw [dCode_eq]
  exact clip_int 7 (by omega) _

/-- A decoded anchor is a real number: an infinite scale leaves the code 0. -/
theorem aBase_real (a : Ideal .f32) (t : Ideal .bf16) : ∃ r : ℝ, aBase a t = (r : EReal) := by
  obtain ⟨z, -, -, hz⟩ := aCode_int a t
  have hS : aScale a = if (0 : EReal) < a then Ideal.div a (ez 127) else 1 := by
    unfold aScale
    show (if BitVec.ofBool (decide (Ideal.ofBits .f32 0#32 < a)) = 1#1 then Ideal.div a (Ideal.ofBits .f32 1123942400#32) else Ideal.ofBits .f32 1065353216#32) = _
    rw [c127, Ideal.ofBits_zero_f32, Ideal.ofBits_one_f32]
    by_cases h : (0 : EReal) < a <;> simp [h]
  have hB : aBase a t = ez z * aScale a := by rw [← hz]; rfl
  by_cases h0 : (0 : EReal) < a
  · rw [if_pos h0] at hS
    have hne : ez 127 ≠ 0 := by simp [ez]
    unfold Ideal.div at hS
    rw [if_neg hne] at hS
    have hinv : (ez 127)⁻¹ = (((127 : ℝ)⁻¹ : ℝ) : EReal) := by simp [ez, EReal.coe_inv]
    rw [hinv] at hS
    induction (a : EReal) using EReal.rec with
    | bot => exact absurd h0 (by simp)
    | coe r =>
      refine ⟨z * (r * (127 : ℝ)⁻¹), ?_⟩
      rw [hB, hS]
      push_cast
      rfl
    | top =>
      have hT : aScale (F := Ideal) (⊤ : EReal) = (⊤ : EReal) := by
        rw [hS]; exact EReal.top_mul_coe_of_pos (by norm_num)
      have hc : aCode (F := Ideal) (⊤ : EReal) t = ez 0 := by
        show min (Ideal.ofBits .f32 1123942400#32) (max (Ideal.ofBits .f32 3271426048#32)
          (Ideal.liftRound Ideal.roundHalfEven (Ideal.div t (aScale (F := Ideal) (⊤ : EReal))))) = ez 0
        have hd : Ideal.div t (⊤ : EReal) = ez 0 := by unfold Ideal.div; simp [ez]
        rw [hT, hd, round_ez, c127, cm127]
        have hm : Monotone ez := fun a b h => EReal.coe_le_coe_iff.mpr (Int.cast_le.mpr h)
        rw [← hm.map_max, ← hm.map_min]
        rfl
      have : z = 0 := by
        rw [hc] at hz
        have := EReal.coe_eq_coe_iff.mp hz
        exact_mod_cast this.symm
      refine ⟨0, ?_⟩
      rw [hB, this]
      simp [ez]
  · rw [if_neg h0] at hS
    exact ⟨z, by rw [hB, hS, mul_one]⟩

/-! ## The extremes of a group -/

/-- Subtracting goes through a maximum. -/
theorem max_sub (x y b : EReal) : max x y - b = max (x - b) (y - b) :=
  Monotone.map_max (f := fun x : EReal => x - b) fun _ _ h => EReal.sub_le_sub h le_rfl

/-- Being subtracted turns a minimum into a maximum. -/
theorem sub_min (x y b : EReal) : b - min x y = max (b - x) (b - y) :=
  Antitone.map_min (f := fun x : EReal => b - x) fun _ _ h => EReal.sub_le_sub le_rfl h

/-- The distance from a real number. -/
theorem abs_sub (x : EReal) (b : ℝ) : max (x - b) (-(x - b)) = max (x - b) (b - x) := by
  rw [EReal.neg_sub (Or.inr (EReal.coe_ne_bot b)) (Or.inr (EReal.coe_ne_top b)), add_comm, ← sub_eq_add_neg]

/-- The larger of the two extremes' distances from the anchor, over ten tokens. -/
theorem ext10_le (f : ℕ → Ideal .bf16) (T : ℕ) (b u : EReal) :
    max (top10 f T - b) (b - bot10 f T) ≤ u ↔ ∀ r, r < 10 → f (T + r) - b ≤ u ∧ b - f (T + r) ≤ u := by
  have h1 : top10 f T = max (max (max (max (max (f T) (f (T + 2))) (f (T + 4))) (f (T + 6))) (f (T + 8)))
      (max (max (max (max (f (T + 1)) (f (T + 3))) (f (T + 5))) (f (T + 7))) (f (T + 9))) := rfl
  have h2 : bot10 f T = min (min (min (min (min (f T) (f (T + 2))) (f (T + 4))) (f (T + 6))) (f (T + 8)))
      (min (min (min (min (f (T + 1)) (f (T + 3))) (f (T + 5))) (f (T + 7))) (f (T + 9))) := rfl
  rw [h1, h2]
  simp only [max_sub, sub_min, max_le_iff]
  constructor
  · rintro ⟨⟨⟨⟨⟨⟨a0, a2⟩, a4⟩, a6⟩, a8⟩, ⟨⟨⟨a1, a3⟩, a5⟩, a7⟩, a9⟩, ⟨⟨⟨⟨b0, b2⟩, b4⟩, b6⟩, b8⟩, ⟨⟨⟨b1, b3⟩, b5⟩, b7⟩, b9⟩ r hr
    have : r = 0 ∨ r = 1 ∨ r = 2 ∨ r = 3 ∨ r = 4 ∨ r = 5 ∨ r = 6 ∨ r = 7 ∨ r = 8 ∨ r = 9 := by omega
    rcases this with rfl | rfl | rfl | rfl | rfl | rfl | rfl | rfl | rfl | rfl
    exacts [⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩]
  · intro h
    exact ⟨⟨⟨⟨⟨⟨(h 0 (by omega)).1, (h 2 (by omega)).1⟩, (h 4 (by omega)).1⟩, (h 6 (by omega)).1⟩, (h 8 (by omega)).1⟩,
        ⟨⟨⟨(h 1 (by omega)).1, (h 3 (by omega)).1⟩, (h 5 (by omega)).1⟩, (h 7 (by omega)).1⟩, (h 9 (by omega)).1⟩,
      ⟨⟨⟨⟨(h 0 (by omega)).2, (h 2 (by omega)).2⟩, (h 4 (by omega)).2⟩, (h 6 (by omega)).2⟩, (h 8 (by omega)).2⟩,
        ⟨⟨⟨(h 1 (by omega)).2, (h 3 (by omega)).2⟩, (h 5 (by omega)).2⟩, (h 7 (by omega)).2⟩, (h 9 (by omega)).2⟩

/-- The same over the last group's four tokens. -/
theorem ext4_le (f : ℕ → Ideal .bf16) (T : ℕ) (b u : EReal) :
    max (top4 f T - b) (b - bot4 f T) ≤ u ↔ ∀ r, r < 4 → f (T + r) - b ≤ u ∧ b - f (T + r) ≤ u := by
  have h1 : top4 f T = max (max (f T) (f (T + 2))) (max (f (T + 1)) (f (T + 3))) := rfl
  have h2 : bot4 f T = min (min (f T) (f (T + 2))) (min (f (T + 1)) (f (T + 3))) := rfl
  rw [h1, h2]
  simp only [max_sub, sub_min, max_le_iff]
  constructor
  · rintro ⟨⟨⟨a0, a2⟩, a1, a3⟩, ⟨b0, b2⟩, b1, b3⟩ r hr
    have : r = 0 ∨ r = 1 ∨ r = 2 ∨ r = 3 := by omega
    rcases this with rfl | rfl | rfl | rfl
    exacts [⟨a0, b0⟩, ⟨a1, b1⟩, ⟨a2, b2⟩, ⟨a3, b3⟩]
  · intro h
    exact ⟨⟨⟨(h 0 (by omega)).1, (h 2 (by omega)).1⟩, (h 1 (by omega)).1, (h 3 (by omega)).1⟩,
      ⟨(h 0 (by omega)).2, (h 2 (by omega)).2⟩, (h 1 (by omega)).2, (h 3 (by omega)).2⟩

/-- The anchors' largest absolute value, as a bound. -/
theorem amaxN_le (f : ℕ → Ideal .bf16) (u : EReal) : ∀ n, amaxN f n ≤ u ↔ ∀ g, g ≤ n → max (f (10 * g)) (-f (10 * g)) ≤ u
  | 0 => by
    constructor
    · intro h g hg; obtain rfl : g = 0 := by omega
      exact h
    · intro h; exact h 0 (le_refl _)
  | n + 1 => by
    have e : amaxN f (n + 1) = max (amaxN f n) (max (f (10 * n + 10)) (-f (10 * n + 10))) := rfl
    rw [e, max_le_iff, amaxN_le f u n]
    constructor
    · rintro ⟨h1, h2⟩ g hg
      rcases Nat.lt_or_ge n g with hl | hl
      · obtain rfl : g = n + 1 := by omega
        exact h2
      · exact h1 g hl
    · intro h
      exact ⟨fun g hg => h g (by omega), h (n + 1) (le_refl _)⟩

/-- An absolute value is not negative. -/
theorem abs_nonneg' (x : EReal) : 0 ≤ max x (-x) := by
  rcases le_total 0 x with h | h
  · exact le_max_of_le_left h
  · exact le_max_of_le_right (EReal.neg_nonneg.mpr h)

end Cert.Codec

end
-- ==== Proof.Hand.RefIdx.lean ====
/- Which group a token of the reference belongs to: token `n` reads row `n / 10` of the anchors' and the scales' tables. -/
module

public import proofs.«01_k».proof.Proof.Gen.ReferenceIdeal.Read
public import proofs.«01_k».proof.Proof.Hand.Spec
public import Idealize.ShloMosaic.Lib.KernelVsHost
public import Idealize.ShloMosaic.Lib.ValueIdxCore

@[expose] public section

set_option maxRecDepth 16384

noncomputable section

namespace Cert.Codec

open Idealize.ShloMosaic Idealize.ShloMosaic.TcCoe Idealize.ShloMosaic.Tactic
open Cert.ReferenceIdeal Cert.ReferenceIdeal.Gen Cert.ReferenceIdeal.Read

variable {F : FTy → Type} [FloatOps F]

/-- The printed words that compute the row of token `n`. -/
theorem row_word : ∀ n : Fin 1024,
    (let S : BitVec 32 → BitVec 32 := fun x => if x = 0 then 0 else if x.msb then -1 else 1
     let q : BitVec 32 := Scalar.select
      (IntOp.andi (IntOp.cmpi CmpIPredicate.ne (S (BitVec.ofNat 32 n.val)) (S 10#32))
        (IntOp.cmpi CmpIPredicate.ne (IntOp.remsi ArithUnit.host (BitVec.ofNat 32 n.val) 10#32) 0#32))
      (IntOp.subi (IntOp.divsi ArithUnit.host (BitVec.ofNat 32 n.val) 10#32) 1#32)
      (IntOp.divsi ArithUnit.host (BitVec.ofNat 32 n.val) 10#32)
     Scalar.select (IntOp.cmpi CmpIPredicate.slt q 0#32) (IntOp.addi q 103#32) q) = BitVec.ofNat 32 (n.val / 10) := by
  decide +kernel

/-- The row of a token in the anchors' table. -/
theorem row28 (n : Fin 1024) : val_main_v28 (F := F) (ix2 n 0) = BitVec.ofNat 32 (n.val / 10) := by
  simp only [val_main_v28_apply, val_main_v27_apply, val_main_v26_apply, val_main_v25_apply, val_main_v24_apply, val_main_v23_apply,
    val_main_c_5_apply, val_main_c_6_apply, val_main_v1_apply, val_main_call0_v13_apply, val_main_call0_v12_apply, val_main_call0_c_0_apply,
    val_main_call0_v11_apply, val_main_call0_v10_apply, val_main_call0_v9_apply, val_main_call0_c_apply, val_main_call0_v8_apply,
    val_main_call0_v7_apply, val_main_call0_v6_apply, val_main_call0_v5_apply, val_main_call0_v2_apply, val_main_call0_v1_apply,
    val_main_call0_v0_apply, val_main_c_apply, val_main_v0_apply]
  unfold val_main_call0_v3 val_main_call0_v4
  exact row_word n

/-- The row of a token in the scales' table. -/
theorem row46 (n : Fin 1024) : val_main_v46 (F := F) (ix2 n 0) = BitVec.ofNat 32 (n.val / 10) := row28 n

/-- A group's number, read as a signed word and clamped to the table, is itself. -/
theorem row_clamp : ∀ n : Fin 1024, min (BitVec.ofNat 32 (n.val / 10)).toInt.toNat 102 = n.val / 10 := by decide +kernel

/-- The dimension numbers of the reference's gather. -/
abbrev rowDims := gather_S2x103x40x128_S1024x1_S2x1024x40x128_023_1_n_n_1_1_2140128

/-- The reference's gather reads row `idx n` of its table. -/
theorem gather_row (x : S2x103x40x128.Idx → F .f32) (idx : IVec S1024x1 32)
    (hi : ∀ n : Fin 1024, idx (ix2 n 0) = BitVec.ofNat 32 (n.val / 10)) (b : Fin 2) (n : Fin 1024) (h : Fin 40) (l : Fin 128) :
    Host.gather rowDims x idx (ix4 b n h l) = x (ix4 b ⟨n.val / 10, by omega⟩ h l) := by
  unfold Host.gather
  congr 1
  funext a
  refine Fin.ext ?_
  show rowDims.start (ix4 b n h l) idx a + rowDims.batchCoord (ix4 b n h l) a + rowDims.offCoord (ix4 b n h l) a = _
  rw [GatherDims.batchCoord_eq_zero _ _ _ List.not_mem_nil, Nat.add_zero]
  have h4 : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · have hs : rowDims.start (ix4 b n h l) idx (0 : Fin 4) = 0 := by
      unfold GatherDims.start
      exact dif_neg (show ¬ ((0 : Fin 4) : Fin 4) ∈ [(1 : Fin 4)] by decide)
    have ho : rowDims.offCoord (ix4 b n h l) (0 : Fin 4) = b.val := by
      unfold GatherDims.offCoord
      rw [dif_pos ((GatherDims.mem_sKept _ _).mpr ⟨show ¬ ((0 : Fin 4) : Fin 4) ∈ [(1 : Fin 4)] by decide, List.not_mem_nil⟩)]
      rfl
    rw [hs, ho]
    exact Nat.zero_add _
  · rw [GatherDims.offCoord_eq_zero _ _ _ (fun h => ((GatherDims.mem_sKept _ _).mp h).1 (List.mem_singleton.mpr rfl)), Nat.add_zero]
    have hsi : rowDims.siIdx (ix4 b n h l) ⟨List.idxOf (1 : Fin 4) rowDims.startIndexMap,
        List.idxOf_lt_length_iff.2 (List.mem_singleton.mpr rfl)⟩ = ix2 n 0 := by
      funext b; refine Fin.ext ?_
      match b with
      | ⟨0, _⟩ => rfl
      | ⟨1, _⟩ => rfl
    unfold GatherDims.start
    rw [dif_pos (show (1 : Fin 4) ∈ rowDims.startIndexMap from List.mem_singleton.mpr rfl), hsi, hi]
    exact row_clamp n
  · have hs : rowDims.start (ix4 b n h l) idx (2 : Fin 4) = 0 := by
      unfold GatherDims.start
      exact dif_neg (show ¬ ((2 : Fin 4) : Fin 4) ∈ [(1 : Fin 4)] by decide)
    have ho : rowDims.offCoord (ix4 b n h l) (2 : Fin 4) = h.val := by
      unfold GatherDims.offCoord
      rw [dif_pos ((GatherDims.mem_sKept _ _).mpr ⟨show ¬ ((2 : Fin 4) : Fin 4) ∈ [(1 : Fin 4)] by decide, List.not_mem_nil⟩)]
      rfl
    rw [hs, ho]
    exact Nat.zero_add _
  · have hs : rowDims.start (ix4 b n h l) idx (3 : Fin 4) = 0 := by
      unfold GatherDims.start
      exact dif_neg (show ¬ ((3 : Fin 4) : Fin 4) ∈ [(1 : Fin 4)] by decide)
    have ho : rowDims.offCoord (ix4 b n h l) (3 : Fin 4) = l.val := by
      unfold GatherDims.offCoord
      rw [dif_pos ((GatherDims.mem_sKept _ _).mpr ⟨show ¬ ((3 : Fin 4) : Fin 4) ∈ [(1 : Fin 4)] by decide, List.not_mem_nil⟩)]
      rfl
    rw [hs, ho]
    exact Nat.zero_add _

/-- An index of a rank-4 slice along the second axis, at start `o` and stride `k`. -/
theorem slice_row {n N : ℕ} {α : Type} (o k : ℕ) (x : Shape.Idx ⟨4, ![2, N, 40, 128]⟩ → α)
    (hs : Shape.SlicesBy ⟨4, ![2, N, 40, 128]⟩ ![0, o, 0, 0] ![1, k, 1, 1] ⟨4, ![2, n, 40, 128]⟩) (b : Fin 2) (g : Fin n) (h : Fin 40) (l : Fin 128)
    (hg : o + k * g.val < N) :
    Host.slice ⟨4, ![2, n, 40, 128]⟩ ![0, o, 0, 0] ![1, k, 1, 1] x hs (ix4 b g h l) = x (ix4 b ⟨o + k * g.val, hg⟩ h l) := by
  rw [Host.slice_apply]
  congr 1
  funext a
  refine Fin.ext ?_
  match a with
  | ⟨0, _⟩ => exact (Nat.zero_add _).trans (Nat.one_mul _)
  | ⟨1, _⟩ => rfl
  | ⟨2, _⟩ => exact (Nat.zero_add _).trans (Nat.one_mul _)
  | ⟨3, _⟩ => exact (Nat.zero_add _).trans (Nat.one_mul _)

end Cert.Codec

end
-- ==== Proof.Hand.RefRead.lean ====
/- What the reference computes, over the extended reals, element by element, in the words of Spec.lean. -/
module

public import proofs.«01_k».proof.Proof.Hand.Arith
public import proofs.«01_k».proof.Proof.Hand.Out
public import proofs.«01_k».proof.Proof.Hand.RefIdx

@[expose] public section

set_option maxRecDepth 16384

noncomputable section

namespace Cert.Codec

open Idealize.ShloMosaic Idealize.ShloMosaic.TcCoe Idealize.ShloMosaic.Tactic
open Cert.ReferenceIdeal Cert.ReferenceIdeal.Gen Cert.ReferenceIdeal.Read

/-- A maximum over some axes, started at minus infinity, as a bound. -/
theorem reduce_le {s t u : Shape} {axes : List (Fin s.rank)} (x : s.Idx → Ideal .f32) (init : u.Idx → Ideal .f32)
    (hr : s.ReducesTo axes t) (hu : 0 < u.numel) (j : t.Idx) (v : EReal) (h0 : init (Shape.Idx.first hu) = (⊥ : EReal)) :
    (Host.reduce (FloatOps.maximumf (F := Ideal) (φ := .f32)) x init hr hu j : EReal) ≤ v ↔ ∀ i, hr.drop i = j → (x i : EReal) ≤ v := by
  rw [Host.reduce_eq_fold, h0]
  show Finset.fold (max : EReal → EReal → EReal) (⊥ : EReal) x _ ≤ v ↔ _
  rw [Finset.fold_max_le]
  simp

/-! ## The anchors -/

/-- The reference's anchors are every tenth token. -/
theorem v2_row (x : Arr Ideal) (b : Fin 2) (g : Fin 103) (h : Fin 40) (l : Fin 128) :
    val_main_v2 (F := Ideal) x (ix4 b g h l) = tokA x b h l (10 * g.val) := by
  unfold val_main_v2
  refine (slice_row 0 10 x _ b g h l (by omega)).trans ?_
  unfold tokA
  congr 2
  refine Fin.ext ?_
  show 0 + 10 * g.val = min (10 * g.val) 1023
  omega

/-- Dropping the anchor's axis of an index. -/
theorem drop_d1 (p : Fin 2) (q : Fin 103) (r : Fin 40) (s : Fin 128) :
    reducesTo_S2x103x40x128_S2x40x128_d1.drop (ix4 p q r s) = ix3 p r s := by
  funext a; refine Fin.ext ?_
  match a with
  | ⟨0, _⟩ => exact Shape.ReducesTo.drop_apply_val_of_eq _ (ix4 p q r s) 0 0
  | ⟨1, _⟩ => exact Shape.ReducesTo.drop_apply_val_of_eq _ (ix4 p q r s) 1 2
  | ⟨2, _⟩ => exact Shape.ReducesTo.drop_apply_val_of_eq _ (ix4 p q r s) 2 3

/-- The reference's largest absolute value of the anchors. -/
theorem v5_eq (x : Arr Ideal) (b : Fin 2) (h : Fin 40) (l : Fin 128) :
    val_main_v5 (F := Ideal) x (ix3 b h l) = amax (tokA x b h l) := by
  refine eq_of_forall_ge_iff (α := EReal) fun u => ?_
  unfold val_main_v5
  rw [reduce_le _ _ _ _ _ _ cninf, amax, amaxN_le]
  have hv : ∀ g : Fin 103, (val_main_v4 (F := Ideal) x (ix4 b g h l) : EReal)
      = max (tokA x b h l (10 * g.val)) (-tokA x b h l (10 * g.val)) := fun g => by
    rw [← v2_row]; rfl
  constructor
  · intro H g hg
    have := H (ix4 b ⟨g, by omega⟩ h l) (drop_d1 _ _ _ _)
    rw [hv] at this
    exact this
  · intro H i hi
    obtain ⟨p, q, r, s, rfl⟩ : ∃ p q r s, i = ix4 p q r s := ⟨_, _, _, _, eq_ix4 i⟩
    rw [drop_d1] at hi
    obtain rfl : p = b := congrFun hi 0
    obtain rfl : r = h := congrFun hi 1
    obtain rfl : s = l := congrFun hi 2
    rw [hv]
    exact H q.val (by omega)

/-- The reference's anchor scale. -/
theorem v10_eq (x : Arr Ideal) (b : Fin 2) (h : Fin 40) (l : Fin 128) :
    val_main_v10 (F := Ideal) x (ix3 b h l) = aScale (amax (tokA x b h l)) := by
  rw [val_main_v10_apply, val_main_v7_apply, val_main_v9_apply, val_main_v6_apply, val_main_v8_apply, val_main_call1_v1_apply, v5_eq]
  rfl

/-- The anchor scale, repeated for each anchor, where the reference divides by it. -/
theorem v12_eq (x : Arr Ideal) (b : Fin 2) (g : Fin 103) (h : Fin 40) (l : Fin 128) :
    val_main_v12 (F := Ideal) x (ix4 b g h l) = aScale (amax (tokA x b h l)) := by
  rw [← v10_eq, val_main_v12_apply, val_main_v11_apply]
  congr 1
  funext a
  match a with | ⟨0, _⟩ => rfl | ⟨1, _⟩ => rfl | ⟨2, _⟩ => rfl

/-- The anchor scale, repeated for each anchor, where the reference multiplies by it. -/
theorem v21_eq (x : Arr Ideal) (b : Fin 2) (g : Fin 103) (h : Fin 40) (l : Fin 128) :
    val_main_v21 (F := Ideal) x (ix4 b g h l) = aScale (amax (tokA x b h l)) := by
  rw [← v10_eq, val_main_v21_apply, val_main_v20_apply]
  congr 1
  funext a
  match a with | ⟨0, _⟩ => rfl | ⟨1, _⟩ => rfl | ⟨2, _⟩ => rfl

/-- The reference's anchor code, as a float. -/
theorem v15_eq (x : Arr Ideal) (b : Fin 2) (g : Fin 103) (h : Fin 40) (l : Fin 128) :
    val_main_v15 (F := Ideal) x (ix4 b g h l) = aCode (amax (tokA x b h l)) (tokA x b h l (10 * g.val)) := by
  rw [val_main_v15_apply, val_main_call3_v4_apply, val_main_call3_v2_apply, val_main_call3_v1_apply, val_main_v14_apply,
    val_main_v13_apply, val_main_v3_apply, v12_eq, v2_row]
  rfl

/-- The reference's anchor code, as a byte. -/
theorem v17_eq (x : Arr Ideal) (b : Fin 2) (g : Fin 103) (h : Fin 40) (l : Fin 128) :
    val_main_v17 (F := Ideal) x (ix4 b g h l)
      = FloatOps.fptosi (F := Ideal) (φ := .f32) 8 (aCode (amax (tokA x b h l)) (tokA x b h l (10 * g.val))) := by
  rw [val_main_v17_apply, val_main_v16_apply, v15_eq]
  obtain ⟨z, h1, h2, hz⟩ := aCode_int (amax (tokA x b h l)) (tokA x b h l (10 * g.val))
  rw [hz]
  show BitVec.setWidth 8 (Ideal.fptosi 32 (ez z)) = Ideal.fptosi 8 (ez z)
  rw [fptosi_ez32 z (by omega) h2, fptosi_ez8 z (by omega) h2, (words_of z (by omega) h2).1]

/-- The reference's decoded anchor. -/
theorem v22_eq (x : Arr Ideal) (b : Fin 2) (g : Fin 103) (h : Fin 40) (l : Fin 128) :
    val_main_v22 (F := Ideal) x (ix4 b g h l) = gBase (amax (tokA x b h l)) (tokA x b h l) g.val := by
  rw [val_main_v22_apply, val_main_v19_apply, val_main_v18_apply, v17_eq, v21_eq]
  unfold gBase aBase
  obtain ⟨z, h1, h2, hz⟩ := aCode_int (amax (tokA x b h l)) (tokA x b h l (10 * g.val))
  rw [hz]
  congr 1
  show (((BitVec.signExtend 32 (Ideal.fptosi 8 (ez z))).toInt : ℝ) : EReal) = ez z
  rw [fptosi_ez8 z (by omega) h2, (words_of z (by omega) h2).2.1, (words_of z (by omega) h2).2.2]

/-- The decoded anchor of a token's group. -/
theorem v29_eq (x : Arr Ideal) (b : Fin 2) (n : Fin 1024) (h : Fin 40) (l : Fin 128) :
    val_main_v29 (F := Ideal) x (ix4 b n h l) = gBase (amax (tokA x b h l)) (tokA x b h l) (n.val / 10) := by
  unfold val_main_v29
  have e := gather_row (F := Ideal) (val_main_v22 (F := Ideal) x) (val_main_v28 (F := Ideal)) row28 b n h l
  rw [v22_eq] at e
  exact e

/-- A token's number lies in range, so the cut leaves it. -/
theorem tokA_val (x : Arr Ideal) (b : Fin 2) (n : Fin 1024) (h : Fin 40) (l : Fin 128) : x (ix4 b n h l) = tokA x b h l n.val := by
  unfold tokA
  congr 2
  refine Fin.ext ?_
  show n.val = min n.val 1023
  omega

/-- A token less its decoded anchor. -/
theorem v31_eq (x : Arr Ideal) (b : Fin 2) (n : Fin 1024) (h : Fin 40) (l : Fin 128) :
    val_main_v31 (F := Ideal) x (ix4 b n h l)
      = ((tokA x b h l n.val : EReal) - gBase (amax (tokA x b h l)) (tokA x b h l) (n.val / 10) : EReal) := by
  rw [val_main_v31_apply, val_main_v30_apply, v29_eq, tokA_val x]
  rfl

/-- A group's decoded anchor is a real number. -/
theorem gBase_real (a : Ideal .f32) (f : ℕ → Ideal .bf16) (g : ℕ) : ∃ r : ℝ, gBase a f g = (r : EReal) := aBase_real a (f (10 * g))

/-- The distance of a token from its decoded anchor. -/
theorem v32_eq (x : Arr Ideal) (b : Fin 2) (n : Fin 1024) (h : Fin 40) (l : Fin 128) :
    val_main_v32 (F := Ideal) x (ix4 b n h l)
      = (max ((tokA x b h l n.val : EReal) - gBase (amax (tokA x b h l)) (tokA x b h l) (n.val / 10))
          (gBase (amax (tokA x b h l)) (tokA x b h l) (n.val / 10) - (tokA x b h l n.val : EReal)) : EReal) := by
  rw [val_main_v32_apply, v31_eq]
  obtain ⟨r, hr⟩ := gBase_real (amax (tokA x b h l)) (tokA x b h l) (n.val / 10)
  rw [hr]
  exact abs_sub _ _

/-! ## The groups -/

/-- Dropping a group's inner axis of an index. -/
theorem drop_d2 (p : Fin 2) (q : Fin 103) (k : Fin 10) (r : Fin 40) (s : Fin 128) :
    reducesTo_S2x103x10x40x128_S2x103x40x128_d2.drop (ix5 p q k r s) = ix4 p q r s := by
  funext a; refine Fin.ext ?_
  match a with
  | ⟨0, _⟩ => exact Shape.ReducesTo.drop_apply_val_of_eq _ (ix5 p q k r s) 0 0
  | ⟨1, _⟩ => exact Shape.ReducesTo.drop_apply_val_of_eq _ (ix5 p q k r s) 1 1
  | ⟨2, _⟩ => exact Shape.ReducesTo.drop_apply_val_of_eq _ (ix5 p q k r s) 2 3
  | ⟨3, _⟩ => exact Shape.ReducesTo.drop_apply_val_of_eq _ (ix5 p q k r s) 3 4

/-- Element `k` of group `g` is row `10 g + k` of the padded table. -/
theorem v34_row (x : Arr Ideal) (b : Fin 2) (g : Fin 103) (k : Fin 10) (h : Fin 40) (l : Fin 128) :
    val_main_v34 (F := Ideal) x (ix5 b g k h l) = val_main_v33 (F := Ideal) x (ix4 b ⟨10 * g.val + k.val, by omega⟩ h l) := by
  rw [val_main_v34_apply]
  congr 1
  funext a
  refine Fin.ext ?_
  have h0 := b.isLt
  have h1 := g.isLt
  have h2 := k.isLt
  have h3 := h.isLt
  have h4 := l.isLt
  match a with
  | ⟨0, _⟩ =>
    show ((((b.val * 103 + g.val) * 10 + k.val) * 40 + h.val) * 128 + l.val) / 5273600 = b.val
    omega
  | ⟨1, _⟩ =>
    show ((((b.val * 103 + g.val) * 10 + k.val) * 40 + h.val) * 128 + l.val) / 5120 % 1030 = 10 * g.val + k.val
    omega
  | ⟨2, _⟩ =>
    show ((((b.val * 103 + g.val) * 10 + k.val) * 40 + h.val) * 128 + l.val) / 128 % 40 = h.val
    omega
  | ⟨3, _⟩ =>
    show ((((b.val * 103 + g.val) * 10 + k.val) * 40 + h.val) * 128 + l.val) % 128 = l.val
    omega

/-- The padded table keeps the rows below 1024. -/
theorem v33_in (x : Arr Ideal) (b : Fin 2) (n : Fin 1030) (h : Fin 40) (l : Fin 128) (hn : n.val < 1024) :
    val_main_v33 (F := Ideal) x (ix4 b n h l) = val_main_v32 (F := Ideal) x (ix4 b ⟨n.val, hn⟩ h l) := by
  unfold val_main_v33
  refine pad_apply_of_inside _ _ _ _ _ _ _ _ _ fun a => ?_
  match a with
  | ⟨0, _⟩ => exact ((Nat.zero_add _).trans (Nat.mul_one _)).symm
  | ⟨1, _⟩ => exact ((Nat.zero_add _).trans (Nat.mul_one _)).symm
  | ⟨2, _⟩ => exact ((Nat.zero_add _).trans (Nat.mul_one _)).symm
  | ⟨3, _⟩ => exact ((Nat.zero_add _).trans (Nat.mul_one _)).symm

/-- The other rows of the padded table are zero. -/
theorem v33_out (x : Arr Ideal) (b : Fin 2) (n : Fin 1030) (h : Fin 40) (l : Fin 128) (hn : ¬ n.val < 1024) :
    val_main_v33 (F := Ideal) x (ix4 b n h l) = (0 : EReal) := by
  unfold val_main_v33
  refine (pad_apply_of_not_inside _ _ _ _ _ _ _ _ (1 : Fin 4) fun hh => hn ?_).trans ?_
  · have h3 : (n.val - 0) / (0 + 1) < 1024 := hh.2.2
    omega
  · show (((0#32 : BitVec 32).toInt : ℝ) : EReal) = 0
    simp

/-- The larger of a group's two extremes' distances from the anchor, as a bound on its tokens' distances. -/
theorem gExt_le (f : ℕ → Ideal .bf16) (g : ℕ) (hg : g < 103) (b u : EReal) :
    max (gTop f g - b) (b - gBot f g) ≤ u ↔ ∀ r, r < 10 → 10 * g + r < 1024 → f (10 * g + r) - b ≤ u ∧ b - f (10 * g + r) ≤ u := by
  unfold gTop gBot
  by_cases h : g < 102
  · rw [if_pos h, if_pos h, ext10_le]
    exact ⟨fun H r hr _ => H r hr, fun H r hr => H r hr (by omega)⟩
  · rw [if_neg h, if_neg h, ext4_le]
    exact ⟨fun H r hr h2 => H r (by omega), fun H r hr => H r (by omega) (by omega)⟩

/-- The reference's largest distance of a group's tokens from the anchor. -/
theorem v35_eq (x : Arr Ideal) (b : Fin 2) (g : Fin 103) (h : Fin 40) (l : Fin 128) :
    val_main_v35 (F := Ideal) x (ix4 b g h l)
      = (max ((gTop (tokA x b h l) g.val : EReal) - gBase (amax (tokA x b h l)) (tokA x b h l) g.val)
          (gBase (amax (tokA x b h l)) (tokA x b h l) g.val - (gBot (tokA x b h l) g.val : EReal)) : EReal) := by
  refine eq_of_forall_ge_iff (α := EReal) fun u => ?_
  unfold val_main_v35
  rw [reduce_le _ _ _ _ _ _ cninf, gExt_le _ _ g.isLt]
  have hin : ∀ (r : Fin 10) (_ : 10 * g.val + r.val < 1024), (val_main_v34 (F := Ideal) x (ix5 b g r h l) : EReal)
      = (max ((tokA x b h l (10 * g.val + r.val) : EReal) - gBase (amax (tokA x b h l)) (tokA x b h l) g.val)
          (gBase (amax (tokA x b h l)) (tokA x b h l) g.val - (tokA x b h l (10 * g.val + r.val) : EReal)) : EReal) := fun r hr => by
    rw [v34_row, v33_in _ _ _ _ _ hr, v32_eq]
    have : (10 * g.val + r.val) / 10 = g.val := by omega
    dsimp only
    rw [this]
  constructor
  · intro H r hr hn
    have := H (ix5 b g ⟨r, hr⟩ h l) (drop_d2 _ _ _ _ _)
    rw [hin _ hn] at this
    exact max_le_iff.mp this
  · intro H i hi
    obtain ⟨p, q, k, r, s, rfl⟩ : ∃ p q k r s, i = ix5 p q k r s := ⟨_, _, _, _, _, eq_ix5 i⟩
    rw [drop_d2] at hi
    obtain rfl : p = b := congrFun hi 0
    obtain rfl : q = g := congrFun hi 1
    obtain rfl : r = h := congrFun hi 2
    obtain rfl : s = l := congrFun hi 3
    by_cases hn : 10 * q.val + k.val < 1024
    · rw [hin k hn]
      exact max_le_iff.mpr (H k.val k.isLt hn)
    · rw [v34_row, v33_out _ _ _ _ _ hn]
      have h0 := H 0 (by omega) (by omega)
      obtain ⟨c, hc⟩ := gBase_real (amax (tokA x p r s)) (tokA x p r s) q.val
      rw [hc] at h0
      refine (abs_nonneg' ((tokA x p r s (10 * q.val + 0) : EReal) - (c : EReal))).trans ?_
      rw [abs_sub]
      exact max_le_iff.mpr h0

/-- The reference's scale of a group. -/
theorem v40_eq (x : Arr Ideal) (b : Fin 2) (g : Fin 103) (h : Fin 40) (l : Fin 128) :
    val_main_v40 (F := Ideal) x (ix4 b g h l) = gScale (amax (tokA x b h l)) (tokA x b h l) g.val := by
  rw [val_main_v40_apply, val_main_v37_apply, val_main_v39_apply, val_main_v36_apply, val_main_v38_apply, val_main_call5_v1_apply, v35_eq]
  rfl

/-- The scale of a token's group. -/
theorem v47_eq (x : Arr Ideal) (b : Fin 2) (n : Fin 1024) (h : Fin 40) (l : Fin 128) :
    val_main_v47 (F := Ideal) x (ix4 b n h l) = gScale (amax (tokA x b h l)) (tokA x b h l) (n.val / 10) := by
  unfold val_main_v47
  have e := gather_row (F := Ideal) (val_main_v40 (F := Ideal) x) (val_main_v46 (F := Ideal)) row46 b n h l
  rw [v40_eq] at e
  exact e

/-! ## The codes of the differences -/

/-- The reference's 4-bit code of a token, as a float. -/
theorem v50_eq (x : Arr Ideal) (b : Fin 2) (n : Fin 1024) (h : Fin 40) (l : Fin 128) :
    val_main_v50 (F := Ideal) x (ix4 b n h l) = gCode (amax (tokA x b h l)) (tokA x b h l) (n.val / 10) n.val := by
  rw [val_main_v50_apply, val_main_call7_v4_apply, val_main_call7_v2_apply, val_main_call7_v1_apply, val_main_v49_apply,
    val_main_v48_apply, v31_eq, v47_eq]
  unfold gCode
  rw [dCode_eq, ← c7, ← cm7]
  rfl

/-- The code's word. -/
theorem v53_eq (x : Arr Ideal) (b : Fin 2) (n : Fin 1024) (h : Fin 40) (l : Fin 128) :
    ∃ z : ℤ, -7 ≤ z ∧ z ≤ 7 ∧ gCode (amax (tokA x b h l)) (tokA x b h l) (n.val / 10) n.val = ez z
      ∧ val_main_v53 (F := Ideal) x (ix4 b n h l) = BitVec.ofInt 32 z := by
  obtain ⟨z, h1, h2, hz⟩ := dCode_int (gScale (amax (tokA x b h l)) (tokA x b h l) (n.val / 10))
    (gBase (amax (tokA x b h l)) (tokA x b h l) (n.val / 10)) (tokA x b h l n.val)
  refine ⟨z, h1, h2, hz, ?_⟩
  have hz' : gCode (amax (tokA x b h l)) (tokA x b h l) (n.val / 10) n.val = ez z := hz
  rw [val_main_v53_apply, val_main_v52_apply, val_main_v51_apply, v50_eq, hz']
  show BitVec.signExtend 32 (BitVec.setWidth 8 (Ideal.fptosi 32 (ez z))) = _
  rw [fptosi_ez32 z (by omega) (by omega), (words_of z (by omega) (by omega)).1, (words_of z (by omega) (by omega)).2.1]

/-- The kernel's byte of an integer code. -/
theorem nib_ez (z : ℤ) (h1 : -7 ≤ z) (h2 : z ≤ 7) : nib (F := Ideal) (ez z) = BitVec.ofInt 8 z := by
  show Ideal.fptosi 8 (Ideal.liftRound Ideal.roundHalfEven (ez z)) = _
  rw [round_ez, fptosi_ez8 z (by omega) (by omega)]

/-- The reference's byte of two codes. -/
theorem v61_eq (x : Arr Ideal) (b : Fin 2) (P : Fin 512) (h : Fin 40) (l : Fin 128) :
    val_main_v61 (F := Ideal) x (ix4 b P h l) = gPack (amax (tokA x b h l)) (tokA x b h l) P.val := by
  obtain ⟨z, h1, h2, hz, hv⟩ := v53_eq x b ⟨0 + 2 * P.val, by omega⟩ h l
  obtain ⟨w, h3, h4, hw, hu⟩ := v53_eq x b ⟨1 + 2 * P.val, by omega⟩ h l
  have e56 : val_main_v56 (F := Ideal) x (ix4 b P h l) = val_main_v55 (F := Ideal) x (ix4 b ⟨0 + 2 * P.val, by omega⟩ h l) :=
    slice_row 0 2 _ _ b P h l _
  have e57 : val_main_v57 (F := Ideal) x (ix4 b P h l) = val_main_v55 (F := Ideal) x (ix4 b ⟨1 + 2 * P.val, by omega⟩ h l) :=
    slice_row 1 2 _ _ b P h l _
  rw [val_main_v61_apply, val_main_v60_apply, val_main_v59_apply, e56, e57, val_main_v55_apply, val_main_v55_apply, hv, hu,
    val_main_v54_apply, val_main_v54_apply, val_main_v58_apply]
  refine (pack_of z w h1 h2 h3 h4).trans ?_
  have a0 : (0 + 2 * P.val) / 10 = P.val / 5 := by omega
  have a1 : (1 + 2 * P.val) / 10 = P.val / 5 := by omega
  have a2 : 0 + 2 * P.val = 10 * (P.val / 5) + 2 * (P.val % 5) := by omega
  have a3 : 1 + 2 * P.val = 10 * (P.val / 5) + (2 * (P.val % 5) + 1) := by omega
  dsimp only at hz hw
  rw [a0, a2] at hz
  rw [a1, a3] at hw
  unfold gPack
  rw [hz, hw, nib_ez z h1 h2, nib_ez w h3 h4]

/-- The reference's decoded token. -/
theorem v66_eq (x : Arr Ideal) (b : Fin 2) (n : Fin 1024) (h : Fin 40) (l : Fin 128) :
    val_main_v66 (F := Ideal) x (ix4 b n h l) = gHat (amax (tokA x b h l)) (tokA x b h l) n.val := by
  obtain ⟨z, h1, h2, hz, hv⟩ := v53_eq x b n h l
  have hc : val_main_v63 (F := Ideal) x (ix4 b n h l) = gCode (amax (tokA x b h l)) (tokA x b h l) (n.val / 10) n.val := by
    rw [hz, val_main_v63_apply]
    have : val_main_v62 (F := Ideal) x (ix4 b n h l) = BitVec.ofInt 32 z := hv
    rw [this]
    show (((BitVec.ofInt 32 z).toInt : ℝ) : EReal) = ez z
    rw [(words_of z (by omega) (by omega)).2.2]
  rw [val_main_v66_apply, val_main_v65_apply, val_main_v64_apply, hc, v29_eq, v47_eq]
  rfl

/-! ## The results as arrays -/

/-- The reference's decoded tensor. -/
theorem ref_hat (x : Arr Ideal) : val_main_v66 (F := Ideal) x = arrHat x := by
  funext j; rw [eq_ix4 j]; exact v66_eq x _ _ _ _
/-- The reference's anchor codes. -/
theorem ref_ac (x : Arr Ideal) : val_main_v17 (F := Ideal) x = arrAC x := by
  funext j; rw [eq_ix4 j]; exact v17_eq x _ _ _ _
/-- The reference's anchor scales. -/
theorem ref_as (x : Arr Ideal) : val_main_v10 (F := Ideal) x = arrAS x := by
  funext j; rw [eq_ix3 j]; exact v10_eq x _ _ _
/-- The reference's packed codes. -/
theorem ref_dc (x : Arr Ideal) : val_main_v61 (F := Ideal) x = arrDC x := by
  funext j; rw [eq_ix4 j]; exact v61_eq x _ _ _ _
/-- The reference's group scales. -/
theorem ref_ds (x : Arr Ideal) : val_main_v40 (F := Ideal) x = arrDS x := by
  funext j; rw [eq_ix4 j]; exact v40_eq x _ _ _ _

/-! ## The second tensor: the same operations on the other argument -/

/-- The second tensor's anchor codes. -/
theorem ref_ac_v (x : Arr Ideal) : val_main_v84 (F := Ideal) x = arrAC x := ref_ac x
/-- The second tensor's anchor scales. -/
theorem ref_as_v (x : Arr Ideal) : val_main_v77 (F := Ideal) x = arrAS x := ref_as x
/-- The second tensor's group scales. -/
theorem ref_ds_v (x : Arr Ideal) : val_main_v107 (F := Ideal) x = arrDS x := ref_ds x
/-- The second tensor's packed codes. -/
theorem ref_dc_v (x : Arr Ideal) : val_main_v128 (F := Ideal) x = arrDC x := ref_dc x
/-- The second decoded tensor. -/
theorem ref_hat_v (x : Arr Ideal) : val_main_v133 (F := Ideal) x = arrHat x := ref_hat x

end Cert.Codec

end
-- ==== Proof.Hand.Algebraic.lean ====
/- The value claim: over the extended reals the kernel's ten results are the reference's ten results. -/
module

public import proofs.«01_k».proof.Defs
public import proofs.«01_k».proof.Proof.Hand.Arrays
public import proofs.«01_k».proof.Proof.Hand.RefRead
public import proofs.«01_k».proof.Proof.Gen.ReferenceIdeal.Run

@[expose] public section

set_option maxRecDepth 16384

noncomputable section

namespace Cert.Codec

open Idealize.ShloMosaic Idealize.ShloMosaic.TcCoe Idealize.SL.Sem

/-- From tensors that agree, the kernel and the reference end with the same ten arrays: the decoded tensors, the anchors'
    codes and scales, the packed codes of the differences and their scales, for the first and the second tensor. -/
theorem algebraic : Cert.algebraic_KernelIdeal_ReferenceIdeal := by
  intro m ρ m' ρ' _ hagree
  let A (c : Dev Cert.KernelIdeal.nD) : Arr Ideal := m ((c : Thread Cert.KernelIdeal.nD Cert.KernelIdeal.τ).loc Cert.KernelIdeal.main_arg0)
  let B (c : Dev Cert.KernelIdeal.nD) : Arr Ideal := m ((c : Thread Cert.KernelIdeal.nD Cert.KernelIdeal.τ).loc Cert.KernelIdeal.main_arg1)
  refine ⟨fun c => arrHat (A c), fun c => arrHat (B c), fun c => arrAC (A c), fun c => arrAS (A c), fun c => arrDC (A c),
    fun c => arrDS (A c), fun c => arrAC (B c), fun c => arrAS (B c), fun c => arrDC (B c), fun c => arrDS (B c), ?_, ?_⟩
  · refine (θ_run Cert.KernelIdeal.defs _ _).mono (fun _ h c => ?_) (Cert.KernelIdeal.Value.run_blocks (F := Ideal) m ρ)
    obtain ⟨h0, h1, h2, h3, h4, h5, h6, h7, h8, h9, ha, hb⟩ := h c
    exact ⟨h0.trans (final_2 m c), h1.trans (final_3 m c), h2.trans (final_4 m c), h3.trans (final_5 m c), h4.trans (final_6 m c),
      h5.trans (final_7 m c), h6.trans (final_8 m c), h7.trans (final_9 m c), h8.trans (final_10 m c), h9.trans (final_11 m c), ha, hb⟩
  · refine (θ_run Cert.ReferenceIdeal.defs _ _).mono (fun _ h c => ?_) (Cert.ReferenceIdeal.Value.run (F := Ideal) m' ρ')
    obtain ⟨h0, h1, h2, h3, h4, h5, h6, h7, h8, h9, ha, hb⟩ := h c
    have eA : StableHlo.launchContents m' c (Proc.devRef .tc Cert.ReferenceIdeal.main_arg0) = A c := (hagree c).1
    have eB : StableHlo.launchContents m' c (Proc.devRef .tc Cert.ReferenceIdeal.main_arg1) = B c := (hagree c).2
    exact ⟨h0.trans ((Cert.ReferenceIdeal.Read.val_main_v66_eq _).trans ((ref_hat _).trans (congrArg arrHat eA))),
      h1.trans ((Cert.ReferenceIdeal.Read.val_main_v133_eq _).trans ((ref_hat_v _).trans (congrArg arrHat eB))),
      h2.trans ((Cert.ReferenceIdeal.Read.val_main_v17_eq _).trans ((ref_ac _).trans (congrArg arrAC eA))),
      h3.trans ((Cert.ReferenceIdeal.Read.val_main_v10_eq _).trans ((ref_as _).trans (congrArg arrAS eA))),
      h4.trans ((Cert.ReferenceIdeal.Read.val_main_v61_eq _).trans ((ref_dc _).trans (congrArg arrDC eA))),
      h5.trans ((Cert.ReferenceIdeal.Read.val_main_v40_eq _).trans ((ref_ds _).trans (congrArg arrDS eA))),
      h6.trans ((Cert.ReferenceIdeal.Read.val_main_v84_eq _).trans ((ref_ac_v _).trans (congrArg arrAC eB))),
      h7.trans ((Cert.ReferenceIdeal.Read.val_main_v77_eq _).trans ((ref_as_v _).trans (congrArg arrAS eB))),
      h8.trans ((Cert.ReferenceIdeal.Read.val_main_v128_eq _).trans ((ref_dc_v _).trans (congrArg arrDC eB))),
      h9.trans ((Cert.ReferenceIdeal.Read.val_main_v107_eq _).trans ((ref_ds_v _).trans (congrArg arrDS eB))), ha, hb⟩

end Cert.Codec

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Hand.Algebraic
public import Idealize.ShloMosaic.Adequacy
public import Idealize.ShloMosaic.Init

@[expose] public section

noncomputable section

namespace Cert.Proof

open Idealize.ShloMosaic Idealize.SL.Sem Cert.Kernel

/-- The five claims: the three frames, the deviation-free rewriting of the kernel, and the equality with the reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => ⟨(h c).2.2.2.2.2.2.2.2.2.2.1, (h c).2.2.2.2.2.2.2.2.2.2.2⟩,
      Idealize.ShloMosaic.sem_eq_zero_of_no_sems (by decide) r.2⟩) (Cert.ReferenceIdeal.Value.run (F := Ideal) m ρ), trivial, Cert.Codec.algebraic⟩

end Cert.Proof

end
